-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "om" .f32 0x3F4CCCCD#32 ((53687091 / 67108864 : ℝ) : EReal)
  ∧ IdealRules.named_const.Statement Cert.KernelIdeal.κ "mask" .f32 0xCE6E6B28#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S16x150x57 : Shape := ⟨3, ![16, 150, 57]⟩
abbrev S2x150x150 : Shape := ⟨3, ![2, 150, 150]⟩
abbrev S2x150 : Shape := ⟨2, ![2, 150]⟩
abbrev S2x57x57 : Shape := ⟨3, ![2, 57, 57]⟩
abbrev S2x57 : Shape := ⟨2, ![2, 57]⟩
abbrev S114x57 : Shape := ⟨2, ![114, 57]⟩
abbrev S57 : Shape := ⟨1, ![57]⟩
abbrev S450x57 : Shape := ⟨2, ![450, 57]⟩
abbrev S450x150 : Shape := ⟨2, ![450, 150]⟩
abbrev S450 : Shape := ⟨1, ![450]⟩
abbrev S150x3 : Shape := ⟨2, ![150, 3]⟩
abbrev S3 : Shape := ⟨1, ![3]⟩
abbrev S_ : Shape := ⟨0, ![]⟩

class Facts : Prop where
  bcast_S_S16x150x57 : S_.BroadcastsInDim S16x150x57 (![] : Fin 0 → Fin S16x150x57.rank)
  reducesTo_S16x150x57_S_d0_1_2 : S16x150x57.ReducesTo [0, 1, 2] S_
  h_S_ : 0 < S_.numel
  bcast_S_S2x150x150 : S_.BroadcastsInDim S2x150x150 (![] : Fin 0 → Fin S2x150x150.rank)
  reducesTo_S2x150x150_S_d0_1_2 : S2x150x150.ReducesTo [0, 1, 2] S_
  bcast_S_S2x150 : S_.BroadcastsInDim S2x150 (![] : Fin 0 → Fin S2x150.rank)
  reducesTo_S2x150_S_d0_1 : S2x150.ReducesTo [0, 1] S_
  bcast_S_S2x57x57 : S_.BroadcastsInDim S2x57x57 (![] : Fin 0 → Fin S2x57x57.rank)
  reducesTo_S2x57x57_S_d0_1_2 : S2x57x57.ReducesTo [0, 1, 2] S_
  bcast_S_S2x57 : S_.BroadcastsInDim S2x57 (![] : Fin 0 → Fin S2x57.rank)
  reducesTo_S2x57_S_d0_1 : S2x57.ReducesTo [0, 1] S_

variable [Facts]

def fn_part2 {F : FTy → Type} [FloatOps F] (main_arg7 : FVec F S2x57 .f32) (main_arg8 : FVec F S2x57 .f32) (main_v29 : IVec S_ 1) (main_v32 : IVec S2x57x57 1) (main_c_12 : IVec S_ 1) : IVec S_ 1 :=
  let main_v33 : IVec S_ 1 := (fun x v => Host.reduce IntOp.andi x v reducesTo_S2x57x57_S_d0_1_2 h_S_) main_v32 main_c_12
  let main_v34 : IVec S_ 1 := andi main_v33 main_v29
  let main_v35 : FVec F S2x57 .f32 := Host.absf main_arg7
  let main_cst_13 : FVec F S_ .f32 := constant S_ .f32 0x7F800000#32
  let main_v36 : FVec F S2x57 .f32 := broadcastInDim S2x57 ![] bcast_S_S2x57 main_cst_13
  let main_v37 : IVec S2x57 1 := cmpf .olt main_v35 main_v36
  let main_c_14 : IVec S_ 1 := constantI S_ 1 1#1
  let main_v38 : IVec S_ 1 := (fun x v => Host.reduce IntOp.andi x v reducesTo_S2x57_S_d0_1 h_S_) main_v37 main_c_14
  let main_v39 : IVec S_ 1 := andi main_v38 main_v34
  let main_v40 : FVec F S2x57 .f32 := Host.absf main_arg8
  let main_cst_15 : FVec F S_ .f32 := constant S_ .f32 0x7F800000#32
  let main_v41 : FVec F S2x57 .f32 := broadcastInDim S2x57 ![] bcast_S_S2x57 main_cst_15
  let main_v42 : IVec S2x57 1 := cmpf .olt main_v40 main_v41
  let main_c_16 : IVec S_ 1 := constantI S_ 1 1#1
  let main_v43 : IVec S_ 1 := (fun x v => Host.reduce IntOp.andi x v reducesTo_S2x57_S_d0_1 h_S_) main_v42 main_c_16
  let main_v44 : IVec S_ 1 := andi main_v43 main_v39
  main_v44

def fn_part1 {F : FTy → Type} [FloatOps F] (main_arg4 : FVec F S2x150 .f32) (main_arg5 : FVec F S2x57x57 .f32) (main_arg6 : FVec F S2x57x57 .f32) (main_arg7 : FVec F S2x57 .f32) (main_arg8 : FVec F S2x57 .f32) (main_v14 : IVec S_ 1) (main_v15 : FVec F S2x150 .f32) (main_cst_5 : FVec F S_ .f32) : IVec S_ 1 :=
  let main_v16 : FVec F S2x150 .f32 := broadcastInDim S2x150 ![] bcast_S_S2x150 main_cst_5
  let main_v17 : IVec S2x150 1 := cmpf .olt main_v15 main_v16
  let main_c_6 : IVec S_ 1 := constantI S_ 1 1#1
  let main_v18 : IVec S_ 1 := (fun x v => Host.reduce IntOp.andi x v reducesTo_S2x150_S_d0_1 h_S_) main_v17 main_c_6
  let main_v19 : IVec S_ 1 := andi main_v18 main_v14
  let main_v20 : FVec F S2x150 .f32 := Host.absf main_arg4
  let main_cst_7 : FVec F S_ .f32 := constant S_ .f32 0x7F800000#32
  let main_v21 : FVec F S2x150 .f32 := broadcastInDim S2x150 ![] bcast_S_S2x150 main_cst_7
  let main_v22 : IVec S2x150 1 := cmpf .olt main_v20 main_v21
  let main_c_8 : IVec S_ 1 := constantI S_ 1 1#1
  let main_v23 : IVec S_ 1 := (fun x v => Host.reduce IntOp.andi x v reducesTo_S2x150_S_d0_1 h_S_) main_v22 main_c_8
  let main_v24 : IVec S_ 1 := andi main_v23 main_v19
  let main_v25 : FVec F S2x57x57 .f32 := Host.absf main_arg5
  let main_cst_9 : FVec F S_ .f32 := constant S_ .f32 0x7F800000#32
  let main_v26 : FVec F S2x57x57 .f32 := broadcastInDim S2x57x57 ![] bcast_S_S2x57x57 main_cst_9
  let main_v27 : IVec S2x57x57 1 := cmpf .olt main_v25 main_v26
  let main_c_10 : IVec S_ 1 := constantI S_ 1 1#1
  let main_v28 : IVec S_ 1 := (fun x v => Host.reduce IntOp.andi x v reducesTo_S2x57x57_S_d0_1_2 h_S_) main_v27 main_c_10
  let main_v29 : IVec S_ 1 := andi main_v28 main_v24
  let main_v30 : FVec F S2x57x57 .f32 := Host.absf main_arg6
  let main_cst_11 : FVec F S_ .f32 := constant S_ .f32 0x7F800000#32
  let main_v31 : FVec F S2x57x57 .f32 := broadcastInDim S2x57x57 ![] bcast_S_S2x57x57 main_cst_11
  let main_v32 : IVec S2x57x57 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S16x150x57 .f32) (main_arg1 : FVec F S2x150x150 .f32) (main_arg2 : FVec F S2x150x150 .f32) (main_arg3 : FVec F S2x150 .f32) (main_arg4 : FVec F S2x150 .f32) (main_arg5 : FVec F S2x57x57 .f32) (main_arg6 : FVec F S2x57x57 .f32) (main_arg7 : FVec F S2x57 .f32) (main_arg8 : FVec F S2x57 .f32) (main_arg9 : FVec F S114x57 .f32) (main_arg10 : FVec F S57 .f32) (main_arg11 : FVec F S450x57 .f32) (main_arg12 : FVec F S450x150 .f32) (main_arg13 : FVec F S450 .f32) (main_arg14 : FVec F S450 .f32) (main_arg15 : FVec F S150x3 .f32) (main_arg16 : FVec F S3 .f32) : IVec S_ 1 :=
  let main_v0 : FVec F S16x150x57 .f32 := Host.absf main_arg0
  let main_cst : FVec F S_ .f32 := constant S_ .f32 0x7F800000#32
  let main_v1 : FVec F S16x150x57 .f32 := broadcastInDim S16x150x57 ![] bcast_S_S16x150x57 main_cst
  let main_v2 : IVec S16x150x57 1 := cmpf .olt main_v0 main_v1
  let main_c : IVec S_ 1 := constantI S_ 1 1#1
  let main_v3 : IVec S_ 1 := (fun x v => Host.reduce IntOp.andi x v reducesTo_S16x150x57_S_d0_1_2 h_S_) main_v2 main_c
  let main_c_0 : IVec S_ 1 := constantI S_ 1 1#1
  let main_v4 : IVec S_ 1 := andi main_v3 main_c_0
  let main_v5 : FVec F S2x150x150 .f32 := Host.absf main_arg1
  let main_cst_1 : FVec F S_ .f32 := constant S_ .f32 0x7F800000#32
  let main_v6 : FVec F S2x150x150 .f32 := broadcastInDim S2x150x150 ![] bcast_S_S2x150x150 main_cst_1
  let main_v7 : IVec S2x150x150 1 := cmpf .olt main_v5 main_v6
  let main_c_2 : IVec S_ 1 := constantI S_ 1 1#1
  let main_v8 : IVec S_ 1 := (fun x v => Host.reduce IntOp.andi x v reducesTo_S2x150x150_S_d0_1_2 h_S_) main_v7 main_c_2
  let main_v9 : IVec S_ 1 := andi main_v8 main_v4
  let main_v10 : FVec F S2x150x150 .f32 := Host.absf main_arg2
  let main_cst_3 : FVec F S_ .f32 := constant S_ .f32 0x7F800000#32
  let main_v11 : FVec F S2x150x150 .f32 := broadcastInDim S2x150x150 ![] bcast_S_S2x150x150 main_cst_3
  let main_v12 : IVec S2x150x150 1 := cmpf .olt main_v10 main_v11
  let main_c_4 : IVec S_ 1 := constantI S_ 1 1#1
  let main_v13 : IVec S_ 1 := (fun x v => Host.reduce IntOp.andi x v reducesTo_S2x150x150_S_d0_1_2 h_S_) main_v12 main_c_4
  let main_v14 : IVec S_ 1 := andi main_v13 main_v9
  let main_v15 : FVec F S2x150 .f32 := Host.absf main_arg3
  let main_cst_5 : FVec F S_ .f32 := constant S_ .f32 0x7F800000#32
  fn_part1 (F := F) main_arg4 main_arg5 main_arg6 main_arg7 main_arg8 main_v14 main_v15 main_cst_5
-- ==== Kernel.lean ====
abbrev S16x150x57 : Shape := ⟨3, ![16, 150, 57]⟩
abbrev S2x150x150 : Shape := ⟨3, ![2, 150, 150]⟩
abbrev S2x150 : Shape := ⟨2, ![2, 150]⟩
abbrev S2x57x57 : Shape := ⟨3, ![2, 57, 57]⟩
abbrev S2x57 : Shape := ⟨2, ![2, 57]⟩
abbrev S114x57 : Shape := ⟨2, ![114, 57]⟩
abbrev S57 : Shape := ⟨1, ![57]⟩
abbrev S450x57 : Shape := ⟨2, ![450, 57]⟩
abbrev S450x150 : Shape := ⟨2, ![450, 150]⟩
abbrev S450 : Shape := ⟨1, ![450]⟩
abbrev S150x3 : Shape := ⟨2, ![150, 3]⟩
abbrev S3 : Shape := ⟨1, ![3]⟩
abbrev S16x57x150 : Shape := ⟨3, ![16, 57, 150]⟩
abbrev S912x150 : Shape := ⟨2, ![912, 150]⟩
abbrev S150x16x57 : Shape := ⟨3, ![150, 16, 57]⟩
abbrev S2400x57 : Shape := ⟨2, ![2400, 57]⟩
abbrev S1x150x150 : Shape := ⟨3, ![1, 150, 150]⟩
abbrev S150x150 : Shape := ⟨2, ![150, 150]⟩
abbrev S_ : Shape := ⟨0, ![]⟩
abbrev S150x256 : Shape := ⟨2, ![150, 256]⟩
abbrev S150x512 : Shape := ⟨2, ![150, 512]⟩
abbrev S1x150 : Shape := ⟨2, ![1, 150]⟩
abbrev S1x256 : Shape := ⟨2, ![1, 256]⟩
abbrev S1x512 : Shape := ⟨2, ![1, 512]⟩
abbrev S256 : Shape := ⟨1, ![256]⟩
abbrev S512 : Shape := ⟨1, ![512]⟩
abbrev S512x1 : Shape := ⟨2, ![512, 1]⟩
abbrev S512x2 : Shape := ⟨2, ![512, 2]⟩
abbrev S1x57x57 : Shape := ⟨3, ![1, 57, 57]⟩
abbrev S57x57 : Shape := ⟨2, ![57, 57]⟩
abbrev S57x114 : Shape := ⟨2, ![57, 114]⟩
abbrev S1x57 : Shape := ⟨2, ![1, 57]⟩
abbrev S114 : Shape := ⟨1, ![114]⟩
abbrev S1x114 : Shape := ⟨2, ![1, 114]⟩
abbrev S2x114 : Shape := ⟨2, ![2, 114]⟩
abbrev S150x57 : Shape := ⟨2, ![150, 57]⟩
abbrev S57x150 : Shape := ⟨2, ![57, 150]⟩
abbrev S57x256 : Shape := ⟨2, ![57, 256]⟩
abbrev S57x768 : Shape := ⟨2, ![57, 768]⟩
abbrev S150x768 : Shape := ⟨2, ![150, 768]⟩
abbrev S150 : Shape := ⟨1, ![150]⟩
abbrev S1x768 : Shape := ⟨2, ![1, 768]⟩
abbrev S1x3 : Shape := ⟨2, ![1, 3]⟩
abbrev S16x3 : Shape := ⟨2, ![16, 3]⟩
abbrev S2400x768 : Shape := ⟨2, ![2400, 768]⟩
abbrev S912x512 : Shape := ⟨2, ![912, 512]⟩
abbrev S912x2 : Shape := ⟨2, ![912, 2]⟩
abbrev S16x57x512 : Shape := ⟨3, ![16, 57, 512]⟩
abbrev S1x1x512 : Shape := ⟨3, ![1, 1, 512]⟩
abbrev S1x57x512 : Shape := ⟨3, ![1, 57, 512]⟩
abbrev S57x512 : Shape := ⟨2, ![57, 512]⟩
abbrev S57x1x512 : Shape := ⟨3, ![57, 1, 512]⟩
abbrev S57x57x512 : Shape := ⟨3, ![57, 57, 512]⟩
abbrev S57x57x256 : Shape := ⟨3, ![57, 57, 256]⟩
abbrev S57x1 : Shape := ⟨2, ![57, 1]⟩
abbrev S1x150x57 : Shape := ⟨3, ![1, 150, 57]⟩
abbrev S150x1x57 : Shape := ⟨3, ![150, 1, 57]⟩
abbrev S2400x114 : Shape := ⟨2, ![2400, 114]⟩
abbrev S150x16x1 : Shape := ⟨3, ![150, 16, 1]⟩
abbrev S2400x1 : Shape := ⟨2, ![2400, 1]⟩
abbrev S160x114 : Shape := ⟨2, ![160, 114]⟩
abbrev S2240x114 : Shape := ⟨2, ![2240, 114]⟩
abbrev S2400 : Shape := ⟨1, ![2400]⟩
abbrev S144x114 : Shape := ⟨2, ![144, 114]⟩
abbrev S2256x114 : Shape := ⟨2, ![2256, 114]⟩
abbrev S128x114 : Shape := ⟨2, ![128, 114]⟩
abbrev S2272x114 : Shape := ⟨2, ![2272, 114]⟩
abbrev S112x114 : Shape := ⟨2, ![112, 114]⟩
abbrev S2288x114 : Shape := ⟨2, ![2288, 114]⟩
abbrev S96x114 : Shape := ⟨2, ![96, 114]⟩
abbrev S2304x114 : Shape := ⟨2, ![2304, 114]⟩
abbrev S80x114 : Shape := ⟨2, ![80, 114]⟩
abbrev S2320x114 : Shape := ⟨2, ![2320, 114]⟩
abbrev S64x114 : Shape := ⟨2, ![64, 114]⟩
abbrev S2336x114 : Shape := ⟨2, ![2336, 114]⟩
abbrev S48x114 : Shape := ⟨2, ![48, 114]⟩
abbrev S2352x114 : Shape := ⟨2, ![2352, 114]⟩
abbrev S32x114 : Shape := ⟨2, ![32, 114]⟩
abbrev S2368x114 : Shape := ⟨2, ![2368, 114]⟩
abbrev S16x114 : Shape := ⟨2, ![16, 114]⟩
abbrev S2384x114 : Shape := ⟨2, ![2384, 114]⟩
abbrev S2400x21 : Shape := ⟨2, ![2400, 21]⟩
abbrev S160x57 : Shape := ⟨2, ![160, 57]⟩
abbrev S2240x57 : Shape := ⟨2, ![2240, 57]⟩
abbrev S144x57 : Shape := ⟨2, ![144, 57]⟩
abbrev S2256x57 : Shape := ⟨2, ![2256, 57]⟩
abbrev S128x57 : Shape := ⟨2, ![128, 57]⟩
abbrev S2272x57 : Shape := ⟨2, ![2272, 57]⟩
abbrev S112x57 : Shape := ⟨2, ![112, 57]⟩
abbrev S2288x57 : Shape := ⟨2, ![2288, 57]⟩
abbrev S96x57 : Shape := ⟨2, ![96, 57]⟩
abbrev S2304x57 : Shape := ⟨2, ![2304, 57]⟩
abbrev S80x57 : Shape := ⟨2, ![80, 57]⟩
abbrev S2320x57 : Shape := ⟨2, ![2320, 57]⟩
abbrev S64x57 : Shape := ⟨2, ![64, 57]⟩
abbrev S2336x57 : Shape := ⟨2, ![2336, 57]⟩
abbrev S48x57 : Shape := ⟨2, ![48, 57]⟩
abbrev S2352x57 : Shape := ⟨2, ![2352, 57]⟩
abbrev S32x57 : Shape := ⟨2, ![32, 57]⟩
abbrev S2368x57 : Shape := ⟨2, ![2368, 57]⟩
abbrev S16x57 : Shape := ⟨2, ![16, 57]⟩
abbrev S2384x57 : Shape := ⟨2, ![2384, 57]⟩
abbrev S16x150 : Shape := ⟨2, ![16, 150]⟩
abbrev S16x768 : Shape := ⟨2, ![16, 768]⟩

abbrev nBuf : Space → Nat
  | .hbm => 164
  | .vmem => 23
  | .smem => 0
  | _ => 0

abbrev hbmTy0_0 (i : Nat) : BufTy := match i % 128 with
  | 0 => ⟨S16x150x57, .f32⟩
  | 1 => ⟨S2x150x150, .f32⟩
  | 2 => ⟨S2x150x150, .f32⟩
  | 3 => ⟨S2x150, .f32⟩
  | 4 => ⟨S2x150, .f32⟩
  | 5 => ⟨S2x57x57, .f32⟩
  | 6 => ⟨S2x57x57, .f32⟩
  | 7 => ⟨S2x57, .f32⟩
  | 8 => ⟨S2x57, .f32⟩
  | 9 => ⟨S114x57, .f32⟩
  | 10 => ⟨S57, .f32⟩
  | 11 => ⟨S450x57, .f32⟩
  | 12 => ⟨S450x150, .f32⟩
  | 13 => ⟨S450, .f32⟩
  | 14 => ⟨S450, .f32⟩
  | 15 => ⟨S150x3, .f32⟩
  | 16 => ⟨S3, .f32⟩
  | 17 => ⟨S16x57x150, .f32⟩
  | 18 => ⟨S912x150, .f32⟩
  | 19 => ⟨S150x16x57, .f32⟩
  | 20 => ⟨S2400x57, .f32⟩
  | 21 => ⟨S1x150x150, .f32⟩
  | 22 => ⟨S150x150, .f32⟩
  | 23 => ⟨S_, .i32⟩
  | 24 => ⟨S_, .f32⟩
  | 25 => ⟨S150x256, .f32⟩
  | 26 => ⟨S1x150x150, .f32⟩
  | 27 => ⟨S150x150, .f32⟩
  | 28 => ⟨S_, .i32⟩
  | 29 => ⟨S_, .f32⟩
  | 30 => ⟨S150x256, .f32⟩
  | 31 => ⟨S150x512, .f32⟩
  | 32 => ⟨S1x150x150, .f32⟩
  | 33 => ⟨S150x150, .f32⟩
  | 34 => ⟨S_, .i32⟩
  | 35 => ⟨S_, .f32⟩
  | 36 => ⟨S150x256, .f32⟩
  | 37 => ⟨S1x150x150, .f32⟩
  | 38 => ⟨S150x150, .f32⟩
  | 39 => ⟨S_, .i32⟩
  | 40 => ⟨S_, .f32⟩
  | 41 => ⟨S150x256, .f32⟩
  | 42 => ⟨S150x512, .f32⟩
  | 43 => ⟨S1x150, .f32⟩
  | 44 => ⟨S_, .i32⟩
  | 45 => ⟨S_, .f32⟩
  | 46 => ⟨S1x256, .f32⟩
  | 47 => ⟨S1x150, .f32⟩
  | 48 => ⟨S_, .i32⟩
  | 49 => ⟨S_, .f32⟩
  | 50 => ⟨S1x256, .f32⟩
  | 51 => ⟨S1x512, .f32⟩
  | 52 => ⟨S1x150, .f32⟩
  | 53 => ⟨S_, .i32⟩
  | 54 => ⟨S_, .f32⟩
  | 55 => ⟨S1x256, .f32⟩
  | 56 => ⟨S1x150, .f32⟩
  | 57 => ⟨S_, .i32⟩
  | 58 => ⟨S_, .f32⟩
  | 59 => ⟨S1x256, .f32⟩
  | 60 => ⟨S1x512, .f32⟩
  | 61 => ⟨S_, .f32⟩
  | 62 => ⟨S256, .f32⟩
  | 63 => ⟨S1x150, .f32⟩
  | 64 => ⟨S_, .i32⟩
  | 65 => ⟨S_, .f32⟩
  | 66 => ⟨S1x256, .f32⟩
  | 67 => ⟨S256, .f32⟩
  | 68 => ⟨S512, .f32⟩
  | 69 => ⟨S1x150, .f32⟩
  | 70 => ⟨S_, .i32⟩
  | 71 => ⟨S_, .f32⟩
  | 72 => ⟨S1x256, .f32⟩
  | 73 => ⟨S256, .f32⟩
  | 74 => ⟨S512, .f32⟩
  | 75 => ⟨S512x1, .f32⟩
  | 76 => ⟨S512x1, .f32⟩
  | 77 => ⟨S512x2, .f32⟩
  | 78 => ⟨S1x57x57, .f32⟩
  | 79 => ⟨S57x57, .f32⟩
  | 80 => ⟨S1x57x57, .f32⟩
  | 81 => ⟨S57x57, .f32⟩
  | 82 => ⟨S57x114, .f32⟩
  | 83 => ⟨S1x57x57, .f32⟩
  | 84 => ⟨S57x57, .f32⟩
  | 85 => ⟨S1x57x57, .f32⟩
  | 86 => ⟨S57x57, .f32⟩
  | 87 => ⟨S57x114, .f32⟩
  | 88 => ⟨S1x57, .f32⟩
  | 89 => ⟨S57, .f32⟩
  | 90 => ⟨S1x57, .f32⟩
  | 91 => ⟨S57, .f32⟩
  | 92 => ⟨S114, .f32⟩
  | 93 => ⟨S1x114, .f32⟩
  | 94 => ⟨S_, .f32⟩
  | 95 => ⟨S57, .f32⟩
  | 96 => ⟨S1x57, .f32⟩
  | 97 => ⟨S57, .f32⟩
  | 98 => ⟨S114, .f32⟩
  | 99 => ⟨S1x57, .f32⟩
  | 100 => ⟨S57, .f32⟩
  | 101 => ⟨S114, .f32⟩
  | 102 => ⟨S1x114, .f32⟩
  | 103 => ⟨S1x114, .f32⟩
  | 104 => ⟨S2x114, .f32⟩
  | 105 => ⟨S150x57, .f32⟩
  | 106 => ⟨S150x57, .f32⟩
  | 107 => ⟨S150x57, .f32⟩
  | 108 => ⟨S150x150, .f32⟩
  | 109 => ⟨S150x150, .f32⟩
  | 110 => ⟨S150x150, .f32⟩
  | 111 => ⟨S57x150, .f32⟩
  | 112 => ⟨S_, .i32⟩
  | 113 => ⟨S_, .f32⟩
  | 114 => ⟨S57x256, .f32⟩
  | 115 => ⟨S57x150, .f32⟩
  | 116 => ⟨S_, .i32⟩
  | 117 => ⟨S_, .f32⟩
  | 118 => ⟨S57x256, .f32⟩
  | 119 => ⟨S57x150, .f32⟩
  | 120 => ⟨S_, .i32⟩
  | 121 => ⟨S_, .f32⟩
  | 122 => ⟨S57x256, .f32⟩
  | 123 => ⟨S57x768, .f32⟩
  | 124 => ⟨S150x150, .f32⟩
  | 125 => ⟨S_, .i32⟩
  | 126 => ⟨S_, .f32⟩
  | 127 => ⟨S150x256, .f32⟩
  | _ => ⟨S16x150x57, .f32⟩

abbrev hbmTy0_1 (i : Nat) : BufTy := match i % 128 with
  | 0 => ⟨S150x150, .f32⟩
  | 1 => ⟨S_, .i32⟩
  | 2 => ⟨S_, .f32⟩
  | 3 => ⟨S150x256, .f32⟩
  | 4 => ⟨S150x150, .f32⟩
  | 5 => ⟨S_, .i32⟩
  | 6 => ⟨S_, .f32⟩
  | 7 => ⟨S150x256, .f32⟩
  | 8 => ⟨S150x768, .f32⟩
  | 9 => ⟨S150, .f32⟩
  | 10 => ⟨S150, .f32⟩
  | 11 => ⟨S150, .f32⟩
  | 12 => ⟨S1x150, .f32⟩
  | 13 => ⟨S150, .f32⟩
  | 14 => ⟨S150, .f32⟩
  | 15 => ⟨S150, .f32⟩
  | 16 => ⟨S1x150, .f32⟩
  | 17 => ⟨S150, .f32⟩
  | 18 => ⟨S1x150, .f32⟩
  | 19 => ⟨S_, .i32⟩
  | 20 => ⟨S_, .f32⟩
  | 21 => ⟨S1x256, .f32⟩
  | 22 => ⟨S_, .i32⟩
  | 23 => ⟨S_, .f32⟩
  | 24 => ⟨S1x256, .f32⟩
  | 25 => ⟨S_, .i32⟩
  | 26 => ⟨S_, .f32⟩
  | 27 => ⟨S1x256, .f32⟩
  | 28 => ⟨S1x768, .f32⟩
  | 29 => ⟨S150, .f32⟩
  | 30 => ⟨S1x150, .f32⟩
  | 31 => ⟨S57x57, .f32⟩
  | 32 => ⟨S57x57, .f32⟩
  | 33 => ⟨S1x57, .f32⟩
  | 34 => ⟨S1x3, .f32⟩
  | 35 => ⟨S16x3, .f32⟩
  | _ => ⟨S16x150x57, .f32⟩

abbrev hbmTy (i : Nat) : BufTy := match i / 128 with
  | 0 => hbmTy0_0 i
  | 1 => hbmTy0_1 i
  | _ => ⟨S16x150x57, .f32⟩

abbrev bufTy : (tb : Table) → Fin (tcTables nBuf tb) → BufTy
  | .hbm, ⟨i, _⟩ => hbmTy i
  | .local _ .vmem, ⟨0, _⟩ => ⟨S912x150, .f32⟩
  | .local _ .vmem, ⟨1, _⟩ => ⟨S2400x57, .f32⟩
  | .local _ .vmem, ⟨2, _⟩ => ⟨S16x150x57, .f32⟩
  | .local _ .vmem, ⟨3, _⟩ => ⟨S150x512, .f32⟩
  | .local _ .vmem, ⟨4, _⟩ => ⟨S150x512, .f32⟩
  | .local _ .vmem, ⟨5, _⟩ => ⟨S1x512, .f32⟩
  | .local _ .vmem, ⟨6, _⟩ => ⟨S1x512, .f32⟩
  | .local _ .vmem, ⟨7, _⟩ => ⟨S512x2, .f32⟩
  | .local _ .vmem, ⟨8, _⟩ => ⟨S57x114, .f32⟩
  | .local _ .vmem, ⟨9, _⟩ => ⟨S57x114, .f32⟩
  | .local _ .vmem, ⟨10, _⟩ => ⟨S1x114, .f32⟩
  | .local _ .vmem, ⟨11, _⟩ => ⟨S2x114, .f32⟩
  | .local _ .vmem, ⟨12, _⟩ => ⟨S57x57, .f32⟩
  | .local _ .vmem, ⟨13, _⟩ => ⟨S57x57, .f32⟩
  | .local _ .vmem, ⟨14, _⟩ => ⟨S1x57, .f32⟩
  | .local _ .vmem, ⟨15, _⟩ => ⟨S57x768, .f32⟩
  | .local _ .vmem, ⟨16, _⟩ => ⟨S150x768, .f32⟩
  | .local _ .vmem, ⟨17, _⟩ => ⟨S1x768, .f32⟩
  | .local _ .vmem, ⟨18, _⟩ => ⟨S1x150, .f32⟩
  | .local _ .vmem, ⟨19, _⟩ => ⟨S150x3, .f32⟩
  | .local _ .vmem, ⟨20, _⟩ => ⟨S1x3, .f32⟩
  | .local _ .vmem, ⟨21, _⟩ => ⟨S16x3, .f32⟩
  | .local _ .vmem, ⟨22, _⟩ => ⟨S2400x768, .f32⟩
  | _, _ => ⟨S16x150x57, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_call2_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_call3_v0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_call4_v0 : Ref sig .tc := ⟨.hbm, 45, rfl⟩
abbrev main_v19 : Ref sig .tc := ⟨.hbm, 46, rfl⟩
abbrev main_v20 : Ref sig .tc := ⟨.hbm, 47, rfl⟩
abbrev main_c_4 : Ref sig .tc := ⟨.hbm, 48, rfl⟩
abbrev main_call5_v0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_call6_v0 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_call7_v0 : Ref sig .tc := ⟨.hbm, 58, rfl⟩
abbrev main_v26 : Ref sig .tc := ⟨.hbm, 59, rfl⟩
abbrev main_v27 : Ref sig .tc := ⟨.hbm, 60, rfl⟩
abbrev main_cst : Ref sig .tc := ⟨.hbm, 61, rfl⟩
abbrev main_v28 : Ref sig .tc := ⟨.hbm, 62, rfl⟩
abbrev main_v29 : Ref sig .tc := ⟨.hbm, 63, rfl⟩
abbrev main_c_7 : Ref sig .tc := ⟨.hbm, 64, rfl⟩
abbrev main_call8_v0 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_8 : Ref sig .tc := ⟨.hbm, 70, rfl⟩
abbrev main_call9_v0 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_c_10 : Ref sig .tc := ⟨.hbm, 112, rfl⟩
abbrev main_call10_v0 : Ref sig .tc := ⟨.hbm, 113, rfl⟩
abbrev main_v73 : Ref sig .tc := ⟨.hbm, 114, rfl⟩
abbrev main_v74 : Ref sig .tc := ⟨.hbm, 115, rfl⟩
abbrev main_c_11 : Ref sig .tc := ⟨.hbm, 116, rfl⟩
abbrev main_call11_v0 : Ref sig .tc := ⟨.hbm, 117, rfl⟩
abbrev main_v75 : Ref sig .tc := ⟨.hbm, 118, rfl⟩
abbrev main_v76 : Ref sig .tc := ⟨.hbm, 119, rfl⟩
abbrev main_c_12 : Ref sig .tc := ⟨.hbm, 120, rfl⟩
abbrev main_call12_v0 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_13 : Ref sig .tc := ⟨.hbm, 125, rfl⟩
abbrev main_call13_v0 : Ref sig .tc := ⟨.hbm, 126, rfl⟩
abbrev main_v80 : Ref sig .tc := ⟨.hbm, 127, rfl⟩
abbrev main_v81 : Ref sig .tc := ⟨.hbm, 128, rfl⟩
abbrev main_c_14 : Ref sig .tc := ⟨.hbm, 129, rfl⟩
abbrev main_call14_v0 : Ref sig .tc := ⟨.hbm, 130, rfl⟩
abbrev main_v82 : Ref sig .tc := ⟨.hbm, 131, rfl⟩
abbrev main_v83 : Ref sig .tc := ⟨.hbm, 132, rfl⟩
abbrev main_c_15 : Ref sig .tc := ⟨.hbm, 133, rfl⟩
abbrev main_call15_v0 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_c_16 : Ref sig .tc := ⟨.hbm, 147, rfl⟩
abbrev main_call16_v0 : Ref sig .tc := ⟨.hbm, 148, rfl⟩
abbrev main_v96 : Ref sig .tc := ⟨.hbm, 149, rfl⟩
abbrev main_c_17 : Ref sig .tc := ⟨.hbm, 150, rfl⟩
abbrev main_call17_v0 : Ref sig .tc := ⟨.hbm, 151, rfl⟩
abbrev main_v97 : Ref sig .tc := ⟨.hbm, 152, rfl⟩
abbrev main_c_18 : Ref sig .tc := ⟨.hbm, 153, rfl⟩
abbrev main_call18_v0 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

@[reducible] def k0_t1_loop : Scf.Loop 32 :=
  let c0_i32_441 : BitVec 32 := 0#32
  let c150_i32_442 : BitVec 32 := 150#32
  let v1529 : BitVec 32 := Scalar.addi c0_i32_441 c150_i32_442
  let c1_i32_443 : BitVec 32 := 1#32
  ⟨c0_i32_441, v1529, c1_i32_443⟩
def k0_off1 (k0_t1 : Fin k0_t1_loop.trips) : Fin 2 → Nat :=
  let c0_i32_441 : BitVec 32 := 0#32
  let c1_i32_443 : BitVec 32 := 1#32
  let arg23 : BitVec 32 := Scf.iv c0_i32_441 c1_i32_443 k0_t1
  let c16_i32 : BitVec 32 := 16#32
  let v1538 : BitVec 32 := Scalar.muli arg23 c16_i32
  let v1539 : Index := Scalar.indexCast v1538
  let c0_452 : Index := 0#32
  ![v1539.toNat, 0]
abbrev stage0_0 : Fin 1 → Memref sig .tc .vmem S912x150 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2400x57 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x150x57 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S150x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S150x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S57x114 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S57x114 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x114 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x114 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S57x57 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S57x57 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x57 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S57x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S150x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x150 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S150x3 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x3 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S16x3 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "om" => some ((53687091 / 67108864 : ℝ) : EReal)
  | _ => none
-- ==== ReferenceIdeal.lean ====
abbrev S16x150x57 : Shape := ⟨3, ![16, 150, 57]⟩
abbrev S2x150x150 : Shape := ⟨3, ![2, 150, 150]⟩
abbrev S2x150 : Shape := ⟨2, ![2, 150]⟩
abbrev S2x57x57 : Shape := ⟨3, ![2, 57, 57]⟩
abbrev S2x57 : Shape := ⟨2, ![2, 57]⟩
abbrev S114x57 : Shape := ⟨2, ![114, 57]⟩
abbrev S57 : Shape := ⟨1, ![57]⟩
abbrev S450x57 : Shape := ⟨2, ![450, 57]⟩
abbrev S450x150 : Shape := ⟨2, ![450, 150]⟩
abbrev S450 : Shape := ⟨1, ![450]⟩
abbrev S150x3 : Shape := ⟨2, ![150, 3]⟩
abbrev S3 : Shape := ⟨1, ![3]⟩
abbrev S16x57x150 : Shape := ⟨3, ![16, 57, 150]⟩
abbrev S2x150x16x57 : Shape := ⟨4, ![2, 150, 16, 57]⟩
abbrev S16x2x57x150 : Shape := ⟨4, ![16, 2, 57, 150]⟩
abbrev S16x2x57x1x150 : Shape := ⟨5, ![16, 2, 57, 1, 150]⟩
abbrev S16x2x1x57x150 : Shape := ⟨5, ![16, 2, 1, 57, 150]⟩
abbrev S16x2x57x57x150 : Shape := ⟨5, ![16, 2, 57, 57, 150]⟩
abbrev S1x2x1x1x150 : Shape := ⟨5, ![1, 2, 1, 1, 150]⟩
abbrev S_ : Shape := ⟨0, ![]⟩
abbrev S2x16x57x57 : Shape := ⟨4, ![2, 16, 57, 57]⟩
abbrev S16x2x57x57 : Shape := ⟨4, ![16, 2, 57, 57]⟩
abbrev S16x2x57 : Shape := ⟨3, ![16, 2, 57]⟩
abbrev S16x2x57x1 : Shape := ⟨4, ![16, 2, 57, 1]⟩
abbrev S150 : Shape := ⟨1, ![150]⟩
abbrev S150x1 : Shape := ⟨2, ![150, 1]⟩
abbrev S1x150 : Shape := ⟨2, ![1, 150]⟩
abbrev S150x150 : Shape := ⟨2, ![150, 150]⟩
abbrev S2x57x16x150 : Shape := ⟨4, ![2, 57, 16, 150]⟩
abbrev S16x2x150x57 : Shape := ⟨4, ![16, 2, 150, 57]⟩
abbrev S16x2x150x1x57 : Shape := ⟨5, ![16, 2, 150, 1, 57]⟩
abbrev S16x2x1x150x57 : Shape := ⟨5, ![16, 2, 1, 150, 57]⟩
abbrev S16x2x150x150x57 : Shape := ⟨5, ![16, 2, 150, 150, 57]⟩
abbrev S1x2x1x1x57 : Shape := ⟨5, ![1, 2, 1, 1, 57]⟩
abbrev S2x16x150x150 : Shape := ⟨4, ![2, 16, 150, 150]⟩
abbrev S16x2x150x150 : Shape := ⟨4, ![16, 2, 150, 150]⟩
abbrev S1x1x150x150 : Shape := ⟨4, ![1, 1, 150, 150]⟩
abbrev S16x2x150 : Shape := ⟨3, ![16, 2, 150]⟩
abbrev S16x2x150x1 : Shape := ⟨4, ![16, 2, 150, 1]⟩
abbrev S16x150x114 : Shape := ⟨3, ![16, 150, 114]⟩
abbrev S1x1x57 : Shape := ⟨3, ![1, 1, 57]⟩
abbrev S16x150 : Shape := ⟨2, ![16, 150]⟩
abbrev S150x16x57 : Shape := ⟨3, ![150, 16, 57]⟩
abbrev S150x16x150 : Shape := ⟨3, ![150, 16, 150]⟩
abbrev S1x16x57 : Shape := ⟨3, ![1, 16, 57]⟩
abbrev S16x57 : Shape := ⟨2, ![16, 57]⟩
abbrev S57x450 : Shape := ⟨2, ![57, 450]⟩
abbrev S16x450 : Shape := ⟨2, ![16, 450]⟩
abbrev S1x450 : Shape := ⟨2, ![1, 450]⟩
abbrev S150x450 : Shape := ⟨2, ![150, 450]⟩
abbrev S1x16x150 : Shape := ⟨3, ![1, 16, 150]⟩
abbrev S16x3 : Shape := ⟨2, ![16, 3]⟩
abbrev S1x3 : Shape := ⟨2, ![1, 3]⟩

abbrev nBuf : Space → Nat
  | .hbm => 211
  | .vmem => 0
  | .smem => 0
  | _ => 0

abbrev hbmTy0_0 (i : Nat) : BufTy := match i % 128 with
  | 0 => ⟨S16x150x57, .f32⟩
  | 1 => ⟨S2x150x150, .f32⟩
  | 2 => ⟨S2x150x150, .f32⟩
  | 3 => ⟨S2x150, .f32⟩
  | 4 => ⟨S2x150, .f32⟩
  | 5 => ⟨S2x57x57, .f32⟩
  | 6 => ⟨S2x57x57, .f32⟩
  | 7 => ⟨S2x57, .f32⟩
  | 8 => ⟨S2x57, .f32⟩
  | 9 => ⟨S114x57, .f32⟩
  | 10 => ⟨S57, .f32⟩
  | 11 => ⟨S450x57, .f32⟩
  | 12 => ⟨S450x150, .f32⟩
  | 13 => ⟨S450, .f32⟩
  | 14 => ⟨S450, .f32⟩
  | 15 => ⟨S150x3, .f32⟩
  | 16 => ⟨S3, .f32⟩
  | 17 => ⟨S16x57x150, .f32⟩
  | 18 => ⟨S2x150x16x57, .f32⟩
  | 19 => ⟨S16x2x57x150, .f32⟩
  | 20 => ⟨S2x150x16x57, .f32⟩
  | 21 => ⟨S16x2x57x150, .f32⟩
  | 22 => ⟨S16x2x57x1x150, .f32⟩
  | 23 => ⟨S16x2x1x57x150, .f32⟩
  | 24 => ⟨S16x2x57x57x150, .f32⟩
  | 25 => ⟨S16x2x57x57x150, .f32⟩
  | 26 => ⟨S16x2x57x57x150, .f32⟩
  | 27 => ⟨S1x2x1x1x150, .f32⟩
  | 28 => ⟨S16x2x57x57x150, .f32⟩
  | 29 => ⟨S16x2x57x57x150, .f32⟩
  | 30 => ⟨S_, .f32⟩
  | 31 => ⟨S16x2x57x57x150, .f32⟩
  | 32 => ⟨S16x2x57x57x150, .i1⟩
  | 33 => ⟨S_, .f32⟩
  | 34 => ⟨S16x2x57x57x150, .f32⟩
  | 35 => ⟨S16x2x57x57x150, .f32⟩
  | 36 => ⟨S16x2x57x57x150, .f32⟩
  | 37 => ⟨S2x16x57x57, .f32⟩
  | 38 => ⟨S16x2x57x57, .f32⟩
  | 39 => ⟨S_, .f32⟩
  | 40 => ⟨S16x2x57, .f32⟩
  | 41 => ⟨S_, .f32⟩
  | 42 => ⟨S16x2x57, .f32⟩
  | 43 => ⟨S16x2x57, .f32⟩
  | 44 => ⟨S16x2x57x1, .f32⟩
  | 45 => ⟨S16x2x57x57, .f32⟩
  | 46 => ⟨S16x2x57x57, .f32⟩
  | 47 => ⟨S16x2x57x57, .f32⟩
  | 48 => ⟨S_, .f32⟩
  | 49 => ⟨S16x2x57, .f32⟩
  | 50 => ⟨S16x2x57x1, .f32⟩
  | 51 => ⟨S16x2x57x57, .f32⟩
  | 52 => ⟨S16x2x57x57, .f32⟩
  | 53 => ⟨S16x2x57x150, .f32⟩
  | 54 => ⟨S_, .f32⟩
  | 55 => ⟨S16x57x150, .f32⟩
  | 56 => ⟨S_, .f32⟩
  | 57 => ⟨S16x57x150, .f32⟩
  | 58 => ⟨S16x57x150, .f32⟩
  | 59 => ⟨S16x57x150, .f32⟩
  | 60 => ⟨S16x57x150, .f32⟩
  | 61 => ⟨S_, .f32⟩
  | 62 => ⟨S16x57x150, .f32⟩
  | 63 => ⟨S16x57x150, .f32⟩
  | 64 => ⟨S_, .f32⟩
  | 65 => ⟨S16x57x150, .f32⟩
  | 66 => ⟨S16x57x150, .f32⟩
  | 67 => ⟨S16x150x57, .f32⟩
  | 68 => ⟨S150, .i32⟩
  | 69 => ⟨S150x1, .i32⟩
  | 70 => ⟨S1x150, .i32⟩
  | 71 => ⟨S150x150, .i32⟩
  | 72 => ⟨S150x150, .i32⟩
  | 73 => ⟨S150x150, .i32⟩
  | 74 => ⟨S150x150, .i32⟩
  | 75 => ⟨S_, .i32⟩
  | 76 => ⟨S150x150, .i32⟩
  | 77 => ⟨S150x150, .i1⟩
  | 78 => ⟨S2x57x16x150, .f32⟩
  | 79 => ⟨S16x2x150x57, .f32⟩
  | 80 => ⟨S2x57x16x150, .f32⟩
  | 81 => ⟨S16x2x150x57, .f32⟩
  | 82 => ⟨S16x2x150x1x57, .f32⟩
  | 83 => ⟨S16x2x1x150x57, .f32⟩
  | 84 => ⟨S16x2x150x150x57, .f32⟩
  | 85 => ⟨S16x2x150x150x57, .f32⟩
  | 86 => ⟨S16x2x150x150x57, .f32⟩
  | 87 => ⟨S1x2x1x1x57, .f32⟩
  | 88 => ⟨S16x2x150x150x57, .f32⟩
  | 89 => ⟨S16x2x150x150x57, .f32⟩
  | 90 => ⟨S_, .f32⟩
  | 91 => ⟨S16x2x150x150x57, .f32⟩
  | 92 => ⟨S16x2x150x150x57, .i1⟩
  | 93 => ⟨S_, .f32⟩
  | 94 => ⟨S16x2x150x150x57, .f32⟩
  | 95 => ⟨S16x2x150x150x57, .f32⟩
  | 96 => ⟨S16x2x150x150x57, .f32⟩
  | 97 => ⟨S2x16x150x150, .f32⟩
  | 98 => ⟨S16x2x150x150, .f32⟩
  | 99 => ⟨S1x1x150x150, .i1⟩
  | 100 => ⟨S_, .f32⟩
  | 101 => ⟨S_, .f32⟩
  | 102 => ⟨S16x2x150x150, .i1⟩
  | 103 => ⟨S16x2x150x150, .f32⟩
  | 104 => ⟨S16x2x150x150, .f32⟩
  | 105 => ⟨S_, .f32⟩
  | 106 => ⟨S16x2x150, .f32⟩
  | 107 => ⟨S_, .f32⟩
  | 108 => ⟨S16x2x150, .f32⟩
  | 109 => ⟨S16x2x150, .f32⟩
  | 110 => ⟨S16x2x150x1, .f32⟩
  | 111 => ⟨S16x2x150x150, .f32⟩
  | 112 => ⟨S16x2x150x150, .f32⟩
  | 113 => ⟨S16x2x150x150, .f32⟩
  | 114 => ⟨S_, .f32⟩
  | 115 => ⟨S16x2x150, .f32⟩
  | 116 => ⟨S16x2x150x1, .f32⟩
  | 117 => ⟨S16x2x150x150, .f32⟩
  | 118 => ⟨S16x2x150x150, .f32⟩
  | 119 => ⟨S16x2x150x57, .f32⟩
  | 120 => ⟨S_, .f32⟩
  | 121 => ⟨S16x150x57, .f32⟩
  | 122 => ⟨S_, .f32⟩
  | 123 => ⟨S16x150x57, .f32⟩
  | 124 => ⟨S16x150x57, .f32⟩
  | 125 => ⟨S16x150x57, .f32⟩
  | 126 => ⟨S16x150x57, .f32⟩
  | 127 => ⟨S_, .f32⟩
  | _ => ⟨S16x150x57, .f32⟩

abbrev hbmTy0_1 (i : Nat) : BufTy := match i % 128 with
  | 0 => ⟨S16x150x57, .f32⟩
  | 1 => ⟨S16x150x57, .f32⟩
  | 2 => ⟨S_, .f32⟩
  | 3 => ⟨S16x150x57, .f32⟩
  | 4 => ⟨S16x150x57, .f32⟩
  | 5 => ⟨S16x150x114, .f32⟩
  | 6 => ⟨S16x150x57, .f32⟩
  | 7 => ⟨S1x1x57, .f32⟩
  | 8 => ⟨S16x150x57, .f32⟩
  | 9 => ⟨S16x150x57, .f32⟩
  | 10 => ⟨S_, .f32⟩
  | 11 => ⟨S16x150, .f32⟩
  | 12 => ⟨S150x16x57, .f32⟩
  | 13 => ⟨S_, .f32⟩
  | 14 => ⟨S150x16x150, .f32⟩
  | 15 => ⟨S_, .i32⟩
  | 16 => ⟨S150x16x57, .f32⟩
  | 17 => ⟨S450x57, .f32⟩
  | 18 => ⟨S450, .f32⟩
  | 19 => ⟨S450x150, .f32⟩
  | 20 => ⟨S450, .f32⟩
  | 21 => ⟨S_, .i32⟩
  | 22 => ⟨S16x150, .f32⟩
  | 23 => ⟨S150x16x150, .f32⟩
  | 24 => ⟨S_, .i32⟩
  | 25 => ⟨S_, .i1⟩
  | 26 => ⟨S_, .i32⟩
  | 27 => ⟨S_, .i32⟩
  | 28 => ⟨S1x16x57, .f32⟩
  | 29 => ⟨S16x57, .f32⟩
  | 30 => ⟨S57x450, .f32⟩
  | 31 => ⟨S16x450, .f32⟩
  | 32 => ⟨S1x450, .f32⟩
  | 33 => ⟨S16x450, .f32⟩
  | 34 => ⟨S16x450, .f32⟩
  | 35 => ⟨S150x450, .f32⟩
  | 36 => ⟨S16x450, .f32⟩
  | 37 => ⟨S1x450, .f32⟩
  | 38 => ⟨S16x450, .f32⟩
  | 39 => ⟨S16x450, .f32⟩
  | 40 => ⟨S16x150, .f32⟩
  | 41 => ⟨S16x150, .f32⟩
  | 42 => ⟨S16x150, .f32⟩
  | 43 => ⟨S16x150, .f32⟩
  | 44 => ⟨S16x150, .f32⟩
  | 45 => ⟨S16x150, .f32⟩
  | 46 => ⟨S16x150, .f32⟩
  | 47 => ⟨S16x150, .f32⟩
  | 48 => ⟨S16x150, .f32⟩
  | 49 => ⟨S_, .f32⟩
  | 50 => ⟨S16x150, .f32⟩
  | 51 => ⟨S16x150, .f32⟩
  | 52 => ⟨S_, .f32⟩
  | 53 => ⟨S16x150, .f32⟩
  | 54 => ⟨S16x150, .f32⟩
  | 55 => ⟨S16x150, .f32⟩
  | 56 => ⟨S16x150, .f32⟩
  | 57 => ⟨S16x150, .f32⟩
  | 58 => ⟨S_, .f32⟩
  | 59 => ⟨S16x150, .f32⟩
  | 60 => ⟨S16x150, .f32⟩
  | 61 => ⟨S_, .f32⟩
  | 62 => ⟨S16x150, .f32⟩
  | 63 => ⟨S16x150, .f32⟩
  | 64 => ⟨S16x150, .f32⟩
  | 65 => ⟨S16x150, .f32⟩
  | 66 => ⟨S16x150, .f32⟩
  | 67 => ⟨S_, .f32⟩
  | 68 => ⟨S16x150, .f32⟩
  | 69 => ⟨S16x150, .f32⟩
  | 70 => ⟨S16x150, .f32⟩
  | 71 => ⟨S16x150, .f32⟩
  | 72 => ⟨S16x150, .f32⟩
  | 73 => ⟨S1x16x150, .f32⟩
  | 74 => ⟨S_, .i32⟩
  | 75 => ⟨S_, .i32⟩
  | 76 => ⟨S150x16x150, .f32⟩
  | 77 => ⟨S_, .i32⟩
  | 78 => ⟨S_, .i32⟩
  | 79 => ⟨S16x3, .f32⟩
  | 80 => ⟨S1x3, .f32⟩
  | 81 => ⟨S16x3, .f32⟩
  | 82 => ⟨S16x3, .f32⟩
  | _ => ⟨S16x150x57, .f32⟩

abbrev hbmTy (i : Nat) : BufTy := match i / 128 with
  | 0 => hbmTy0_0 i
  | 1 => hbmTy0_1 i
  | _ => ⟨S16x150x57, .f32⟩

abbrev bufTy : (tb : Table) → Fin (tcTables nBuf tb) → BufTy
  | .hbm, ⟨i, _⟩ => hbmTy i
  | _, _ => ⟨S16x150x57, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_8 : Ref sig .tc := ⟨.hbm, 90, rfl⟩
abbrev main_v63 : Ref sig .tc := ⟨.hbm, 91, rfl⟩
abbrev main_v64 : Ref sig .tc := ⟨.hbm, 92, rfl⟩
abbrev main_cst_9 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_10 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_14 : Ref sig .tc := ⟨.hbm, 120, rfl⟩
abbrev main_v84 : Ref sig .tc := ⟨.hbm, 121, rfl⟩
abbrev main_cst_15 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_16 : Ref sig .tc := ⟨.hbm, 127, rfl⟩
abbrev main_v89 : Ref sig .tc := ⟨.hbm, 128, rfl⟩
abbrev main_v90 : Ref sig .tc := ⟨.hbm, 129, rfl⟩
abbrev main_cst_17 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_18 : Ref sig .tc := ⟨.hbm, 138, rfl⟩
abbrev main_v98 : Ref sig .tc := ⟨.hbm, 139, rfl⟩
abbrev main_v99 : Ref sig .tc := ⟨.hbm, 140, rfl⟩
abbrev main_cst_19 : Ref sig .tc := ⟨.hbm, 141, rfl⟩
abbrev main_v100 : Ref sig .tc := ⟨.hbm, 142, rfl⟩
abbrev main_c_20 : Ref sig .tc := ⟨.hbm, 143, rfl⟩
abbrev main_v101_0 : Ref sig .tc := ⟨.hbm, 144, rfl⟩
abbrev main_v101_1 : Ref sig .tc := ⟨.hbm, 145, rfl⟩
abbrev main_v101_2 : Ref sig .tc := ⟨.hbm, 146, rfl⟩
abbrev main_v101_3 : Ref sig .tc := ⟨.hbm, 147, rfl⟩
abbrev main_v101_4 : Ref sig .tc := ⟨.hbm, 148, rfl⟩
abbrev main_v101_5 : Ref sig .tc := ⟨.hbm, 149, rfl⟩
abbrev main_v101_6 : Ref sig .tc := ⟨.hbm, 150, rfl⟩
abbrev main_v101_7 : Ref sig .tc := ⟨.hbm, 151, rfl⟩
abbrev main_while0c_c_28 : Ref sig .tc := ⟨.hbm, 152, rfl⟩
abbrev main_while0c_v106 : Ref sig .tc := ⟨.hbm, 153, rfl⟩
abbrev main_while0b_call3_c : Ref sig .tc := ⟨.hbm, 154, rfl⟩
abbrev main_while0b_call3_c_0 : Ref sig .tc := ⟨.hbm, 155, rfl⟩
abbrev main_while0b_call3_v0 : Ref sig .tc := ⟨.hbm, 156, rfl⟩
abbrev main_while0b_v106 : Ref sig .tc := ⟨.hbm, 157, rfl⟩
abbrev main_while0b_v107 : Ref sig .tc := ⟨.hbm, 158, rfl⟩
abbrev main_while0b_v108 : Ref sig .tc := ⟨.hbm, 159, rfl⟩
abbrev main_while0b_v109 : Ref sig .tc := ⟨.hbm, 160, rfl⟩
abbrev main_while0b_v110 : Ref sig .tc := ⟨.hbm, 161, rfl⟩
abbrev main_while0b_v111 : Ref sig .tc := ⟨.hbm, 162, rfl⟩
abbrev main_while0b_v112 : Ref sig .tc := ⟨.hbm, 163, rfl⟩
abbrev main_while0b_v113 : Ref sig .tc := ⟨.hbm, 164, rfl⟩
abbrev main_while0b_v114 : Ref sig .tc := ⟨.hbm, 165, rfl⟩
abbrev main_while0b_v115 : Ref sig .tc := ⟨.hbm, 166, rfl⟩
abbrev main_while0b_v116 : Ref sig .tc := ⟨.hbm, 167, rfl⟩
abbrev main_while0b_v117 : Ref sig .tc := ⟨.hbm, 168, rfl⟩
abbrev main_while0b_v118 : Ref sig .tc := ⟨.hbm, 169, rfl⟩
abbrev main_while0b_v119 : Ref sig .tc := ⟨.hbm, 170, rfl⟩
abbrev main_while0b_v120 : Ref sig .tc := ⟨.hbm, 171, rfl⟩
abbrev main_while0b_v121 : Ref sig .tc := ⟨.hbm, 172, rfl⟩
abbrev main_while0b_v122 : Ref sig .tc := ⟨.hbm, 173, rfl⟩
abbrev main_while0b_v123 : Ref sig .tc := ⟨.hbm, 174, rfl⟩
abbrev main_while0b_v124 : Ref sig .tc := ⟨.hbm, 175, rfl⟩
abbrev main_while0b_v125 : Ref sig .tc := ⟨.hbm, 176, rfl⟩
abbrev main_while0b_cst_28 : Ref sig .tc := ⟨.hbm, 177, rfl⟩
abbrev main_while0b_v126 : Ref sig .tc := ⟨.hbm, 178, rfl⟩
abbrev main_while0b_v127 : Ref sig .tc := ⟨.hbm, 179, rfl⟩
abbrev main_while0b_cst_29 : Ref sig .tc := ⟨.hbm, 180, rfl⟩
abbrev main_while0b_v128 : Ref sig .tc := ⟨.hbm, 181, rfl⟩
abbrev main_while0b_v129 : Ref sig .tc := ⟨.hbm, 182, rfl⟩
abbrev main_while0b_v130 : Ref sig .tc := ⟨.hbm, 183, rfl⟩
abbrev main_while0b_v131 : Ref sig .tc := ⟨.hbm, 184, rfl⟩
abbrev main_while0b_v132 : Ref sig .tc := ⟨.hbm, 185, rfl⟩
abbrev main_while0b_cst_30 : Ref sig .tc := ⟨.hbm, 186, rfl⟩
abbrev main_while0b_v133 : Ref sig .tc := ⟨.hbm, 187, rfl⟩
abbrev main_while0b_v134 : Ref sig .tc := ⟨.hbm, 188, rfl⟩
abbrev main_while0b_cst_31 : Ref sig .tc := ⟨.hbm, 189, rfl⟩
abbrev main_while0b_v135 : Ref sig .tc := ⟨.hbm, 190, rfl⟩
abbrev main_while0b_v136 : Ref sig .tc := ⟨.hbm, 191, rfl⟩
abbrev main_while0b_v137 : Ref sig .tc := ⟨.hbm, 192, rfl⟩
abbrev main_while0b_v138 : Ref sig .tc := ⟨.hbm, 193, rfl⟩
abbrev main_while0b_v139 : Ref sig .tc := ⟨.hbm, 194, rfl⟩
abbrev main_while0b_cst_32 : Ref sig .tc := ⟨.hbm, 195, rfl⟩
abbrev main_while0b_v140 : Ref sig .tc := ⟨.hbm, 196, rfl⟩
abbrev main_while0b_v141 : Ref sig .tc := ⟨.hbm, 197, rfl⟩
abbrev main_while0b_v142 : Ref sig .tc := ⟨.hbm, 198, rfl⟩
abbrev main_while0b_v143 : Ref sig .tc := ⟨.hbm, 199, rfl⟩
abbrev main_while0b_v144 : Ref sig .tc := ⟨.hbm, 200, rfl⟩
abbrev main_while0b_call4_v0 : Ref sig .tc := ⟨.hbm, 201, rfl⟩
abbrev main_while0b_call4_c : Ref sig .tc := ⟨.hbm, 202, rfl⟩
abbrev main_while0b_call4_c_0 : Ref sig .tc := ⟨.hbm, 203, rfl⟩
abbrev main_while0b_v145 : Ref sig .tc := ⟨.hbm, 204, rfl⟩
abbrev main_while0b_c_33 : Ref sig .tc := ⟨.hbm, 205, rfl⟩
abbrev main_while0b_v146 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩

abbrev nD : Nat := 1
abbrev τ : Topo := Topo.v7x

variable {F : FTy → Type} [FloatOps F]

abbrev main_while0_count : Scf.Loop 32 := ⟨0#32, 150#32, 1#32⟩
-- ==== Proof.Claims.lean ====
/- The claims besides the values: every program runs to its end and keeps its arguments, and the two named constants
   stand for the rounded ones the kernel holds. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_scores_finite

@[expose] public section

noncomputable section

namespace Cert.Proof

open Idealize.ShloMosaic Idealize.SL.Sem

/-- Every run of the kernel ends, with its arguments kept and its counters at zero. -/
theorem frame_kernel : Cert.quiescent_Kernel := fun m ρ _ => Cert.Kernel.Gen.frame m ρ

/-- Every run of the kernel over the reals ends, with its arguments kept and its counters at zero. -/
theorem frame_kernelIdeal : Cert.quiescent_KernelIdeal := fun m ρ _ => Cert.KernelIdeal.Gen.frame m ρ

/-- Every run of the reference over the reals ends, with its arguments kept and its counters at zero. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same of the kernel over the reals, from the memories the values claim starts from. -/
theorem frame_kernelIdeal_pre : Cert.quiescent_KernelIdeal_pre_scores_finite := fun m ρ _ => frame_kernelIdeal m ρ trivial

/-- The same of the reference. -/
theorem frame_referenceIdeal_pre : Cert.quiescent_ReferenceIdeal_pre_scores_finite := fun m ρ _ => frame_referenceIdeal m ρ trivial

/-- The mask stands for minus infinity, and the rounded complement of the slope for one less the rounded slope. -/
theorem constants : Cert.preserves_Kernel_KernelIdeal :=
  ⟨IdealRules.named_const.statement Cert.KernelIdeal.κ "om" .f32 0x3F4CCCCD#32 ((53687091 / 67108864 : ℝ) : EReal) rfl,
    IdealRules.named_const.statement Cert.KernelIdeal.κ "mask" .f32 0xCE6E6B28#32 ⊥ rfl⟩

end Cert.Proof
-- ==== Proof.KernelStage.lean ====
/- The stages of the kernel's computation as composed vector terms of its window contents. -/
module

public import proofs.«01_k».proof.Proof.Gen.KernelIdeal.Value
public import Idealize.ShloMosaic.PureOps.Ideal

@[expose] public section

set_option maxRecDepth 16384

noncomputable section

namespace Cert.Proof.Ker

open Cert.KernelIdeal Cert.KernelIdeal.Gen Idealize.ShloMosaic Idealize.ShloMosaic.TcCoe
open Idealize.SL Idealize.SL.Sem

/-- The zero scalar the kernel fills with. -/
abbrev zf : Ideal .f32 := Scalar.ofBits (F := Ideal) .f32 0x00000000#32

/-! ### Feature attention -/

theorem slice3 (b : Fin 16) : S16x57x512.Slices ![b.val, 0, 0] S1x57x512 := by
  revert b; decide

theorem sliceQ (b : Fin 16) (h : Fin 2) : S912x2.Slices ![57 * b.val, h.val] S57x1 := by
  revert b h; decide

theorem sliceX (b : Fin 16) : S16x150x57.Slices ![b.val, 0, 0] S1x150x57 := by
  revert b; decide

/-- The weighted positive parts of all pair sums of batch element `b`, all lanes of both heads. -/
def pairs (b : Fin 16) (li lj : FVec Ideal S16x57x512 .f32) (a : FVec Ideal S1x1x512 .f32) : FVec Ideal S57x57x512 .f32 :=
  mulf
    (maximumf
      (addf
        (broadcastTo S57x57x512
          (shapeCast S57x1x512 (shapeCast S57x512 (extractStridedSlice S1x57x512 ![b.val, 0, 0] lj (slice3 b))
            shapeCasts_S1x57x512_S57x512) shapeCasts_S57x512_S57x1x512) broadcasts_S57x1x512_S57x57x512)
        (broadcastTo S57x57x512
          (shapeCast S1x57x512 (shapeCast S57x512 (extractStridedSlice S1x57x512 ![b.val, 0, 0] li (slice3 b))
            shapeCasts_S1x57x512_S57x512) shapeCasts_S57x512_S1x57x512) broadcasts_S1x57x512_S57x57x512))
      (broadcast S57x57x512 zf))
    (broadcastTo S57x57x512 a broadcasts_S1x1x512_S57x57x512)

/-- One head's score from the lane sum and the head's linear part. -/
def headScore (s : FVec Ideal S57x57 .f32) (b : Fin 16) (h : Fin 2) (q : FVec Ideal S912x2 .f32) : FVec Ideal S57x57 .f32 :=
  addf (mulf (broadcast S57x57 (Named.named (F := Ideal) κ "om" 0x3F4CCCCD#32)) s)
    (broadcastTo S57x57 (extractStridedSlice S57x1 ![57 * b.val, h.val] q (sliceQ b h)) broadcasts_S57x1_S57x57)

/-- Both heads' scores of batch element `b`, side by side. -/
def scores (b : Fin 16) (q : FVec Ideal S912x2 .f32) (s : FVec Ideal S57x57x512 .f32) : FVec Ideal S57x114 .f32 :=
  concatenate S57x114 1
    [⟨S57x57, headScore (multiReduction .add [2] S57x57
        (extractStridedSlice S57x57x256 ![0, 0, 0] s slices_S57x57x512_o0_0_0_S57x57x256)
        0x00000000#32 reduces_S57x57x256_S57x57 (.inl rfl) rfl) b 0 q⟩,
     ⟨S57x57, headScore (multiReduction .add [2] S57x57
        (extractStridedSlice S57x57x256 ![0, 0, 256] s slices_S57x57x512_o0_0_256_S57x57x256)
        0x00000000#32 reduces_S57x57x256_S57x57 (.inl rfl) rfl) b 1 q⟩]
    concatenates_S57x57_S57x57_S57x114_d1

/-- The attention weights of both heads: exponentials over their column sums. -/
def weights (e : FVec Ideal S57x114 .f32) : FVec Ideal S57x114 .f32 :=
  divf (exp e)
    (broadcastTo S57x114 (shapeCast S1x114
      (multiReduction .add [0] S114 (exp e) 0x00000000#32 reduces_S57x114_S114 (.inl rfl) rfl)
      shapeCasts_S114_S1x114) broadcasts_S1x114_S57x114)

/-- The mean of the two heads' weights. -/
def meanHead (p : FVec Ideal S57x114 .f32) : FVec Ideal S57x57 .f32 :=
  mulf (broadcast S57x57 (Scalar.ofBits (F := Ideal) .f32 0x3F000000#32))
    (addf (extractStridedSlice S57x57 ![0, 0] p slices_S57x114_o0_0_S57x57)
      (extractStridedSlice S57x57 ![0, 57] p slices_S57x114_o0_57_S57x57))

/-- The feature attention of batch element `b`: its block times the mean weights. -/
def featB (b : Fin 16) (q : FVec Ideal S912x2 .f32) (li lj : FVec Ideal S16x57x512 .f32) (a : FVec Ideal S1x1x512 .f32)
    (x : FVec Ideal S16x150x57 .f32) : FVec Ideal S150x57 .f32 :=
  matmul dot_S150x57_S57x57_S150x57_1_0_0_1_n_n none
    (shapeCast S150x57 (extractStridedSlice S1x150x57 ![b.val, 0, 0] x (sliceX b)) shapeCasts_S1x150x57_S150x57)
    (meanHead (weights (scores b q (pairs b li lj a)))) (constant S150x57 .f32 0x00000000#32)

/-- One batch element's rows with a unit axis for stacking. -/
def unitB (v : FVec Ideal S150x57 .f32) : FVec Ideal S150x1x57 .f32 := shapeCast S150x1x57 v shapeCasts_S150x57_S150x1x57

/-- All batch elements' rows stacked step-major. -/
def stack (f : Fin 16 → FVec Ideal S150x57 .f32) : FVec Ideal S2400x57 .f32 :=
  shapeCast S2400x57
    (concatenate S150x16x57 1 [⟨S150x1x57, unitB (f ⟨0, by decide⟩)⟩, ⟨S150x1x57, unitB (f ⟨1, by decide⟩)⟩, ⟨S150x1x57, unitB (f ⟨2, by decide⟩)⟩,
      ⟨S150x1x57, unitB (f ⟨3, by decide⟩)⟩, ⟨S150x1x57, unitB (f ⟨4, by decide⟩)⟩, ⟨S150x1x57, unitB (f ⟨5, by decide⟩)⟩, ⟨S150x1x57, unitB (f ⟨6, by decide⟩)⟩,
      ⟨S150x1x57, unitB (f ⟨7, by decide⟩)⟩, ⟨S150x1x57, unitB (f ⟨8, by decide⟩)⟩, ⟨S150x1x57, unitB (f ⟨9, by decide⟩)⟩, ⟨S150x1x57, unitB (f ⟨10, by decide⟩)⟩,
      ⟨S150x1x57, unitB (f ⟨11, by decide⟩)⟩, ⟨S150x1x57, unitB (f ⟨12, by decide⟩)⟩, ⟨S150x1x57, unitB (f ⟨13, by decide⟩)⟩, ⟨S150x1x57, unitB (f ⟨14, by decide⟩)⟩,
      ⟨S150x1x57, unitB (f ⟨15, by decide⟩)⟩] concatenates_S150x1x57_S150x1x57_S150x1x57_S150x1x57_S150x1x57_S150x1x57_S150x1x57_S150x1x57_S150x1x57_S150x1x57_S150x1x57_S150x1x57_S150x1x57_S150x1x57_S150x1x57_S150x1x57_S150x16x57_d1) shapeCasts_S150x16x57_S2400x57

/-- The feature attention's output. -/
def featH (q : FVec Ideal S912x2 .f32) (li lj : FVec Ideal S16x57x512 .f32) (a : FVec Ideal S1x1x512 .f32)
    (x : FVec Ideal S16x150x57 .f32) : FVec Ideal S2400x57 .f32 :=
  logistic (stack fun b => featB b q li lj a x)

/-! ### Banded time attention -/

/-- A matrix shape. -/
abbrev mat (s l : Nat) : Shape := ⟨2, ![s, l]⟩

theorem sliceUp (k : Fin 21) (l : Nat) : (mat 2400 l).Slices ![0, 0] (mat (2400 - 16 * (10 - k.val)) l) := by
  refine ⟨rfl, fun a => ?_⟩
  fin_cases a <;> simp

theorem sliceDn (k : Fin 21) (l : Nat) : (mat 2400 l).Slices ![16 * (k.val - 10), 0] (mat (2400 - 16 * (k.val - 10)) l) := by
  have := k.isLt
  refine ⟨rfl, fun a => ?_⟩
  fin_cases a
  · simp; omega
  · simp

theorem catUp (k : Fin 21) (l : Nat) :
    Shape.Concatenates [mat (16 * (10 - k.val)) l, mat (2400 - 16 * (10 - k.val)) l] (mat 2400 l) 0 := by
  have := k.isLt
  refine ⟨by simp, ?_, ?_⟩
  · intro s hs
    simp only [List.mem_cons, List.not_mem_nil, or_false] at hs
    rcases hs with rfl | rfl <;> refine ⟨rfl, fun b hb => ?_⟩ <;> fin_cases b <;> simp at hb ⊢
  · simp; omega

theorem catDn (k : Fin 21) (l : Nat) :
    Shape.Concatenates [mat (2400 - 16 * (k.val - 10)) l, mat (16 * (k.val - 10)) l] (mat 2400 l) 0 := by
  have := k.isLt
  refine ⟨by simp, ?_, ?_⟩
  · intro s hs
    simp only [List.mem_cons, List.not_mem_nil, or_false] at hs
    rcases hs with rfl | rfl <;> refine ⟨rfl, fun b hb => ?_⟩ <;> fin_cases b <;> simp at hb ⊢
  · simp; omega

/-- The rows moved by `k - 10` steps of sixteen rows, zero rows coming in. -/
def shift {l : Nat} (k : Fin 21) (m : FVec Ideal (mat 2400 l) .f32) : FVec Ideal (mat 2400 l) .f32 :=
  if k.val < 10 then
    concatenate (mat 2400 l) 0 [⟨mat (16 * (10 - k.val)) l, broadcast (mat (16 * (10 - k.val)) l) zf⟩,
      ⟨mat (2400 - 16 * (10 - k.val)) l, extractStridedSlice (mat (2400 - 16 * (10 - k.val)) l) ![0, 0] m (sliceUp k l)⟩] (catUp k l)
  else if k.val = 10 then m
  else
    concatenate (mat 2400 l) 0 [⟨mat (2400 - 16 * (k.val - 10)) l,
        extractStridedSlice (mat (2400 - 16 * (k.val - 10)) l) ![16 * (k.val - 10), 0] m (sliceDn k l)⟩,
      ⟨mat (16 * (k.val - 10)) l, broadcast (mat (16 * (k.val - 10)) l) zf⟩] (catDn k l)

/-- Whether the step `k - 10` away is one of the window's steps. -/
def valid (k : Fin 21) (tv : IVec S2400x1 32) : IVec S2400x1 1 :=
  andi (cmpi .sge (addi tv (broadcast S2400x1 (BitVec.ofNat 32 (k.val + 4294967286)))) (broadcast S2400x1 0#32))
    (cmpi .slt (addi tv (broadcast S2400x1 (BitVec.ofNat 32 (k.val + 4294967286)))) (broadcast S2400x1 150#32))

/-- The leaky rectifier of the pair sums at offset `k - 10`. -/
def pairT (k : Fin 21) (ti tj : FVec Ideal S2400x114 .f32) : FVec Ideal S2400x114 .f32 :=
  select (cmpf .oge (addf ti (shift k tj)) (broadcast S2400x114 zf)) (addf ti (shift k tj))
    (mulf (broadcast S2400x114 (Scalar.ofBits (F := Ideal) .f32 0x3E4CCCCD#32)) (addf ti (shift k tj)))

/-- One head's scores at offset `k - 10`, masked where the step does not exist. -/
def colT (a : FVec Ideal S1x114 .f32) (tv : IVec S2400x1 32) (ti tj : FVec Ideal S2400x114 .f32) (k : Fin 21) :
    FVec Ideal S2400x1 .f32 :=
  select (valid k tv)
    (shapeCast S2400x1 (multiReduction .add [1] S2400 (mulf (pairT k ti tj) (broadcastTo S2400x114 a broadcasts_S1x114_S2400x114))
      0x00000000#32 reduces_S2400x114_S2400 (.inl rfl) rfl) shapeCasts_S2400_S2400x1)
    (broadcast S2400x1 (Named.named (F := Ideal) κ "mask" 0xCE6E6B28#32))

/-- Twenty-one columns side by side. -/
def cols (c : Fin 21 → FVec Ideal S2400x1 .f32) : FVec Ideal S2400x21 .f32 :=
  concatenate S2400x21 1 [⟨S2400x1, c ⟨0, by decide⟩⟩, ⟨S2400x1, c ⟨1, by decide⟩⟩, ⟨S2400x1, c ⟨2, by decide⟩⟩, ⟨S2400x1, c ⟨3, by decide⟩⟩, ⟨S2400x1, c ⟨4, by decide⟩⟩, ⟨S2400x1, c ⟨5, by decide⟩⟩,
    ⟨S2400x1, c ⟨6, by decide⟩⟩, ⟨S2400x1, c ⟨7, by decide⟩⟩, ⟨S2400x1, c ⟨8, by decide⟩⟩, ⟨S2400x1, c ⟨9, by decide⟩⟩, ⟨S2400x1, c ⟨10, by decide⟩⟩, ⟨S2400x1, c ⟨11, by decide⟩⟩, ⟨S2400x1, c ⟨12, by decide⟩⟩,
    ⟨S2400x1, c ⟨13, by decide⟩⟩, ⟨S2400x1, c ⟨14, by decide⟩⟩, ⟨S2400x1, c ⟨15, by decide⟩⟩, ⟨S2400x1, c ⟨16, by decide⟩⟩, ⟨S2400x1, c ⟨17, by decide⟩⟩, ⟨S2400x1, c ⟨18, by decide⟩⟩, ⟨S2400x1, c ⟨19, by decide⟩⟩,
    ⟨S2400x1, c ⟨20, by decide⟩⟩] concatenates_S2400x1_S2400x1_S2400x1_S2400x1_S2400x1_S2400x1_S2400x1_S2400x1_S2400x1_S2400x1_S2400x1_S2400x1_S2400x1_S2400x1_S2400x1_S2400x1_S2400x1_S2400x1_S2400x1_S2400x1_S2400x1_S2400x21_d1

/-- Columns given one by one are the columns of a family they belong to. -/
theorem cols_eq {c : Fin 21 → FVec Ideal S2400x1 .f32} {v0 v1 v2 v3 v4 v5 v6 v7 v8 v9 v10 v11 v12 v13 v14 v15 v16
    v17 v18 v19 v20 : FVec Ideal S2400x1 .f32}
    (h0 : v0 = c ⟨0, by decide⟩) (h1 : v1 = c ⟨1, by decide⟩) (h2 : v2 = c ⟨2, by decide⟩)
    (h3 : v3 = c ⟨3, by decide⟩) (h4 : v4 = c ⟨4, by decide⟩) (h5 : v5 = c ⟨5, by decide⟩)
    (h6 : v6 = c ⟨6, by decide⟩) (h7 : v7 = c ⟨7, by decide⟩) (h8 : v8 = c ⟨8, by decide⟩)
    (h9 : v9 = c ⟨9, by decide⟩) (h10 : v10 = c ⟨10, by decide⟩) (h11 : v11 = c ⟨11, by decide⟩)
    (h12 : v12 = c ⟨12, by decide⟩) (h13 : v13 = c ⟨13, by decide⟩) (h14 : v14 = c ⟨14, by decide⟩)
    (h15 : v15 = c ⟨15, by decide⟩) (h16 : v16 = c ⟨16, by decide⟩) (h17 : v17 = c ⟨17, by decide⟩)
    (h18 : v18 = c ⟨18, by decide⟩) (h19 : v19 = c ⟨19, by decide⟩) (h20 : v20 = c ⟨20, by decide⟩) :
  concatenate S2400x21 1 [⟨S2400x1, v0⟩, ⟨S2400x1, v1⟩, ⟨S2400x1, v2⟩, ⟨S2400x1, v3⟩, ⟨S2400x1, v4⟩, ⟨S2400x1, v5⟩,
    ⟨S2400x1, v6⟩, ⟨S2400x1, v7⟩, ⟨S2400x1, v8⟩, ⟨S2400x1, v9⟩, ⟨S2400x1, v10⟩, ⟨S2400x1, v11⟩, ⟨S2400x1, v12⟩,
    ⟨S2400x1, v13⟩, ⟨S2400x1, v14⟩, ⟨S2400x1, v15⟩, ⟨S2400x1, v16⟩, ⟨S2400x1, v17⟩, ⟨S2400x1, v18⟩, ⟨S2400x1, v19⟩,
    ⟨S2400x1, v20⟩] concatenates_S2400x1_S2400x1_S2400x1_S2400x1_S2400x1_S2400x1_S2400x1_S2400x1_S2400x1_S2400x1_S2400x1_S2400x1_S2400x1_S2400x1_S2400x1_S2400x1_S2400x1_S2400x1_S2400x1_S2400x1_S2400x1_S2400x21_d1 = cols c := by
  subst h0 h1 h2 h3 h4 h5 h6 h7 h8 h9 h10 h11 h12 h13 h14 h15 h16 h17 h18 h19 h20
  rfl

/-- The weights over the twenty-one offsets. -/
def weightsT (e : FVec Ideal S2400x21 .f32) : FVec Ideal S2400x21 .f32 :=
  divf (exp e) (broadcastTo S2400x21 (shapeCast S2400x1
    (multiReduction .add [1] S2400 (exp e) 0x00000000#32 reduces_S2400x21_S2400 (.inl rfl) rfl)
    shapeCasts_S2400_S2400x1) broadcasts_S2400x1_S2400x21)

/-- The mean over the two heads of the weights. -/
def meanT (a0 a1 : FVec Ideal S1x114 .f32) (tv : IVec S2400x1 32) (ti tj : FVec Ideal S2400x114 .f32) : FVec Ideal S2400x21 .f32 :=
  mulf (broadcast S2400x21 (Scalar.ofBits (F := Ideal) .f32 0x3F000000#32))
    (addf (weightsT (cols (colT a0 tv ti tj))) (weightsT (cols (colT a1 tv ti tj))))

theorem sliceCol (k : Fin 21) : S2400x21.Slices ![0, k.val] S2400x1 := by
  revert k; decide

/-- Offset `k - 10`'s weighted rows. -/
def termT (w : FVec Ideal S2400x21 .f32) (x : FVec Ideal S2400x57 .f32) (k : Fin 21) : FVec Ideal S2400x57 .f32 :=
  mulf (broadcastTo S2400x57 (extractStridedSlice S2400x1 ![0, k.val] w (sliceCol k)) broadcasts_S2400x1_S2400x57)
    (shift (l := 57) k x)

/-- The sum of the first `n` offsets' weighted rows. -/
def accT (w : FVec Ideal S2400x21 .f32) (x : FVec Ideal S2400x57 .f32) : Nat → FVec Ideal S2400x57 .f32
  | 0 => broadcast S2400x57 zf
  | n + 1 => if h : n < 21 then addf (accT w x n) (termT w x ⟨n, h⟩) else accT w x n

/-- The time attention's output. -/
def timeH (a0 a1 : FVec Ideal S1x114 .f32) (ti tj : FVec Ideal S2400x114 .f32) (x : FVec Ideal S2400x57 .f32) : FVec Ideal S2400x57 .f32 :=
  logistic (accT (meanT a0 a1 k0_pay57 ti tj) x 21)

/-! ### Fusion, gates and loop -/

/-- The fused rows before their bias. -/
def fusedH (hf ht : FVec Ideal S2400x57 .f32) (wf wt : FVec Ideal S57x57 .f32) : FVec Ideal S2400x57 .f32 :=
  addf (matmul dot_S2400x57_S57x57_S2400x57_1_0_0_1_n_n none hf (shapeCast S57x57 wf shapeCasts_S57x57_S57x57)
      (constant S2400x57 .f32 0x00000000#32))
    (matmul dot_S2400x57_S57x57_S2400x57_1_0_0_1_n_n none ht (shapeCast S57x57 wt shapeCasts_S57x57_S57x57)
      (constant S2400x57 .f32 0x00000000#32))

theorem rowX (r : Fin 2) : S2x114.Slices ![r.val, 0] S1x114 := by
  revert r; decide

/-- The input gates of all steps, from the window contents. -/
def gates (x0 : FVec Ideal S912x150 .f32) (x1 : FVec Ideal S2400x57 .f32) (x2 : FVec Ideal S16x150x57 .f32)
    (x3 x4 : FVec Ideal S150x512 .f32) (x5 x6 : FVec Ideal S1x512 .f32) (x7 : FVec Ideal S512x2 .f32)
    (x8 x9 : FVec Ideal S57x114 .f32) (x10 : FVec Ideal S1x114 .f32) (x11 : FVec Ideal S2x114 .f32)
    (x12 x13 : FVec Ideal S57x57 .f32) (x14 : FVec Ideal S1x57 .f32) (x15 : FVec Ideal S57x768 .f32)
    (x17 : FVec Ideal S1x768 .f32) : FVec Ideal S2400x768 .f32 :=
  k0_pay164
    (fusedH (featH (k0_pay7 x0 x4 x5 x7) (k0_pay8 x0 x3) (k0_pay9 x0 x4 x5) (k0_pay10 x6) x2)
      (timeH (k0_pay55 (extractStridedSlice S1x114 ![0, 0] x11 (rowX 0)))
        (k0_pay56 (extractStridedSlice S1x114 ![1, 0] x11 (rowX 1)))
        (k0_pay53 (k0_pay5 x1) x8) (k0_pay54 (k0_pay5 x1) x9 x10) (k0_pay5 x1)) x12 x13)
    (k0_pay163 x14) x15 x17

theorem rowG (k : Fin 150) : S2400x768.Slices ![16 * k.val, 0] S16x768 := by
  refine ⟨rfl, fun a => ?_⟩
  have := k.isLt
  fin_cases a
  · simp; omega
  · simp

/-- The state after `n` steps of the recurrence. -/
def state (g : FVec Ideal S2400x768 .f32) (x16 : FVec Ideal S150x768 .f32) (x18 : FVec Ideal S1x150 .f32) : Nat → FVec Ideal S16x150 .f32
  | 0 => k0_pay1
  | n + 1 => if h : n < 150 then
      k0_pay2 (k0_pay165 x16) x18 (state g x16 x18 n) (extractStridedSlice S16x768 ![16 * n, 0] g (rowG ⟨n, h⟩))
    else state g x16 x18 n

theorem state_succ (g : FVec Ideal S2400x768 .f32) (x16 : FVec Ideal S150x768 .f32) (x18 : FVec Ideal S1x150 .f32) (n : Nat)
    (h : n < 150) : state g x16 x18 (n + 1) =
      k0_pay2 (k0_pay165 x16) x18 (state g x16 x18 n) (extractStridedSlice S16x768 ![16 * n, 0] g (rowG ⟨n, h⟩)) := by
  rw [state.eq_2, dif_pos h]

end Cert.Proof.Ker
-- ==== Proof.Math.lean ====
/- Facts on extended reals the comparison rests on: softmax does not change when a real is added to every score,
   the leaky slope splits into a linear and a clamped part, and finite arrays are arrays of reals. -/
module

public import Idealize.ShloMosaic.PureOps.Ideal

@[expose] public section

noncomputable section

namespace Cert.Proof.Math

open Idealize.ShloMosaic

/-- The extended real is a real. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem coe_max (a b : ℝ) : ((max a b : ℝ) : EReal) = max (a : EReal) (b : EReal) :=
  EReal.coe_strictMono.monotone.map_max

/-- An extended real whose magnitude is below plus infinity is a real. -/
theorem isReal_of_abs_lt {x : EReal} (h : max x (-x) < ⊤) : IsReal x := by
  induction x with
  | bot => simp at h
  | top => simp at h
  | coe r => exact isReal_coe r

theorem exp_nonneg (x : EReal) : 0 ≤ Ideal.exp x := by
  induction x with
  | bot => simp
  | top => simp
  | coe r => rw [Ideal.exp_coe]; exact_mod_cast (Real.exp_pos r).le

/-- Adding a real to an exponent multiplies the exponential by a positive real. -/
theorem exp_add_coe (x : EReal) (r : ℝ) : Ideal.exp (x + (r : EReal)) = Ideal.exp x * ((Real.exp r : ℝ) : EReal) := by
  induction x with
  | bot => rw [EReal.bot_add, Ideal.exp_bot, zero_mul]
  | top => rw [EReal.top_add_coe, Ideal.exp_top, EReal.top_mul_coe_of_pos (Real.exp_pos r)]
  | coe a => rw [← EReal.coe_add, Ideal.exp_coe, Ideal.exp_coe, Real.exp_add, EReal.coe_mul]

theorem sum_mul_of_nonneg {ι : Type*} (s : Finset ι) (f : ι → EReal) (h : ∀ i, 0 ≤ f i) (r : EReal) :
    (∑ i ∈ s, f i) * r = ∑ i ∈ s, f i * r := by
  classical
  induction s using Finset.induction_on with
  | empty => simp
  | insert a s ha ih =>
    rw [Finset.sum_insert ha, Finset.sum_insert ha,
      EReal.right_distrib_of_nonneg (h a) (Finset.sum_nonneg fun i _ => h i), ih]

/-- A quotient is unchanged when both sides are multiplied by one positive real. -/
theorem div_mul_coe (a s : EReal) {r : ℝ} (hr : 0 < r) : Ideal.div (a * (r : EReal)) (s * (r : EReal)) = Ideal.div a s := by
  have hr0 : (r : EReal) ≠ 0 := by exact_mod_cast hr.ne'
  have hrp : (0 : EReal) < (r : EReal) := by exact_mod_cast hr
  unfold Ideal.div
  by_cases hs : s = 0
  · have hpos : 0 < a * (r : EReal) ↔ 0 < a := by
      constructor
      · intro h
        by_contra hn
        exact absurd h (not_lt.mpr (EReal.mul_nonpos_iff.mpr (Or.inr ⟨not_lt.mp hn, hrp.le⟩)))
      · intro h; exact EReal.mul_pos h hrp
    simp only [hs, zero_mul, if_true, hpos]
  · have hsr : s * (r : EReal) ≠ 0 := by
      intro h; rcases mul_eq_zero.mp h with h | h
      · exact hs h
      · exact hr0 h
    rw [if_neg hs, if_neg hsr, EReal.mul_inv]
    have hone : (r : EReal) * (r : EReal)⁻¹ = 1 := by
      rw [← EReal.coe_inv, ← EReal.coe_mul, mul_inv_cancel₀ hr.ne', EReal.coe_one]
    calc a * (r : EReal) * (s⁻¹ * (r : EReal)⁻¹) = a * s⁻¹ * ((r : EReal) * (r : EReal)⁻¹) := by ac_rfl
      _ = a * s⁻¹ := by rw [hone, mul_one]

/-- Softmax with a real added to every score. -/
theorem softmax_add {ι κ : Type*} [Fintype κ] (f : ι → EReal) (g : κ → EReal) (i : ι) (r : ℝ) :
    Ideal.div (Ideal.exp (f i + (r : EReal))) (∑ k, Ideal.exp (g k + (r : EReal)))
      = Ideal.div (Ideal.exp (f i)) (∑ k, Ideal.exp (g k)) := by
  simp only [exp_add_coe]
  rw [← sum_mul_of_nonneg _ _ (fun k => exp_nonneg _), div_mul_coe _ _ (Real.exp_pos r)]

/-- The largest of finitely many scores, none plus infinity and one not minus infinity, is a real. -/
theorem fold_max_real {n : ℕ} (e : Fin n → EReal) (htop : ∀ k, e k ≠ ⊤) (k₀ : Fin n) (hk : e k₀ ≠ ⊥) :
    IsReal (Finset.univ.fold max ⊥ e) := by
  have hlt : Finset.univ.fold max ⊥ e < ⊤ :=
    Finset.fold_max_lt _ |>.mpr ⟨bot_lt_top, fun k _ => lt_top_iff_ne_top.mpr (htop k)⟩
  have hge : e k₀ ≤ Finset.univ.fold max ⊥ e := Finset.le_fold_max _ |>.mpr (Or.inr ⟨k₀, Finset.mem_univ _, le_rfl⟩)
  have hbot : Finset.univ.fold max ⊥ e ≠ ⊥ := fun h => hk (le_bot_iff.mp (h ▸ hge))
  exact ⟨_, (EReal.coe_toReal hlt.ne hbot).symm⟩

/-- One term of a sum of exponentials over a positive real sum is a real. -/
theorem softmax_real {n : ℕ} (e : Fin n → EReal) (htop : ∀ k, e k ≠ ⊤) (k₀ : Fin n) (hk : e k₀ ≠ ⊥) (x : EReal) (hx : x ≠ ⊤) :
    IsReal (Ideal.div (Ideal.exp x) (∑ k, Ideal.exp (e k))) := by
  have key : ∀ y : EReal, y ≠ ⊤ → ∃ r : ℝ, 0 ≤ r ∧ (y ≠ ⊥ → 0 < r) ∧ Ideal.exp y = (r : EReal) := by
    intro y hy
    induction y with
    | bot => exact ⟨0, le_rfl, fun h => absurd rfl h, by simp⟩
    | top => exact absurd rfl hy
    | coe a => exact ⟨Real.exp a, (Real.exp_pos a).le, fun _ => Real.exp_pos a, rfl⟩
  choose g hg0 hgp hg using fun k => key (e k) (htop k)
  obtain ⟨a, -, -, ha⟩ := key x hx
  have hpos : (0 : ℝ) < ∑ k, g k := Finset.sum_pos' (fun k _ => hg0 k) ⟨k₀, Finset.mem_univ _, hgp k₀ hk⟩
  rw [ha, show (∑ k, Ideal.exp (e k)) = ((∑ k, g k : ℝ) : EReal) by
    rw [coe_sum]; exact Finset.sum_congr rfl fun k _ => hg k]
  rw [Ideal.div_coe hpos.ne']
  exact (isReal_coe _).mul (isReal_coe _)

/-- The slope below zero, as the programs hold it. -/
abbrev al : EReal := ((13421773 / 67108864 : ℝ) : EReal)
/-- One minus the slope below zero. -/
abbrev om : EReal := ((53687091 / 67108864 : ℝ) : EReal)

/-- A value and below zero its multiple by the slope. -/
def lky (u : EReal) : EReal := if 0 ≤ u then u else al * u

theorem lky_coe (u : ℝ) : lky (u : EReal) = ((13421773 / 67108864 * u + 53687091 / 67108864 * max u 0 : ℝ) : EReal) := by
  unfold lky
  by_cases h : 0 ≤ u
  · rw [if_pos (by exact_mod_cast h), max_eq_left h]; congr 1; ring
  · rw [if_neg (by exact_mod_cast h), max_eq_right (not_le.mp h).le, ← EReal.coe_mul]; congr 1; ring

theorem IsReal.lky {u : EReal} (h : IsReal u) : IsReal (lky u) := by
  obtain ⟨a, rfl⟩ := h; rw [lky_coe]; exact isReal_coe _

/-- A score is the clamped part plus the column's linear part plus a real that depends only on the row. -/
theorem score_split {n : ℕ} (l v a : Fin n → EReal) (hl : ∀ d, IsReal (l d)) (hv : ∀ d, IsReal (v d)) (ha : ∀ d, IsReal (a d)) :
    ∑ d, lky (l d + v d) * a d
      = (om * (∑ d, max (v d + l d) 0 * a d) + (∑ d, v d * a d) * al) + al * ∑ d, l d * a d := by
  choose l' hl' using hl
  choose v' hv' using hv
  choose a' ha' using ha
  simp only [hl', hv', ha', ← EReal.coe_add, lky_coe, ← EReal.coe_zero, ← coe_max, ← EReal.coe_mul, ← coe_sum]
  congr 1
  rw [Finset.mul_sum, Finset.sum_mul, Finset.mul_sum, ← Finset.sum_add_distrib, ← Finset.sum_add_distrib]
  refine Finset.sum_congr rfl fun d _ => ?_
  rw [add_comm (v' d) (l' d)]; ring

end Cert.Proof.Math

end
-- ==== Proof.Spec.lean ====
/- The network's mathematics, entry by entry: what both programs compute from the same arguments. -/
module

public import proofs.«01_k».proof.Proof.Math
public import Idealize.ShloMosaic.Lib.Pointwise

@[expose] public section

noncomputable section

namespace Cert.Proof.Spec

open Idealize.ShloMosaic Cert.Proof.Math

/-- A vector of floats. -/
abbrev A1 (a : Nat) := FVec Ideal ⟨1, ![a]⟩ .f32
/-- A matrix of floats. -/
abbrev A2 (a b : Nat) := FVec Ideal ⟨2, ![a, b]⟩ .f32
/-- A rank-three array of floats. -/
abbrev A3 (a b c : Nat) := FVec Ideal ⟨3, ![a, b, c]⟩ .f32

/-- The sigmoid. -/
def sgm (u : EReal) : EReal := Ideal.div 1 (1 + Ideal.exp (-u))

/-- The greatest of finitely many scores. -/
def top {n : Nat} (e : Fin n → EReal) : EReal := max ⊥ (Finset.univ.fold max ⊥ e)

/-- The softmax of finitely many scores, each less the greatest. -/
def smax {n : Nat} (e : Fin n → EReal) (j : Fin n) : EReal :=
  Ideal.div (Ideal.exp (e j - top e)) (∑ k, Ideal.exp (e k - top e))

/-- A feature's projection by one head. -/
def fL (x : A3 16 150 57) (w : A3 2 150 150) (b : Fin 16) (h : Fin 2) (i : Fin 57) (d : Fin 150) : EReal :=
  ∑ t : Fin 150, w (ix3 h t d) * x (ix3 b t i)

/-- The score of feature `j` for feature `i`. -/
def fScore (x : A3 16 150 57) (w1 w2 : A3 2 150 150) (c a : A2 2 150) (b : Fin 16) (h : Fin 2) (i j : Fin 57) : EReal :=
  ∑ d : Fin 150, a (ix2 h d) * lky (fL x w1 b h i d + fL x w2 b h j d + c (ix2 h d))

/-- The feature attention. -/
def fAtt (x : A3 16 150 57) (w1 w2 : A3 2 150 150) (c a : A2 2 150) (b : Fin 16) (t : Fin 150) (i : Fin 57) : EReal :=
  sgm (Ideal.div (∑ h : Fin 2, ∑ j : Fin 57, smax (fScore x w1 w2 c a b h i) j * x (ix3 b t j)) 2)

/-- A step's projection by one head. -/
def tL (x : A3 16 150 57) (w : A3 2 57 57) (b : Fin 16) (h : Fin 2) (t : Fin 150) (d : Fin 57) : EReal :=
  ∑ f : Fin 57, w (ix3 h f d) * x (ix3 b t f)

/-- Two steps at most ten apart. -/
def near (t s : Fin 150) : Prop := t.val ≤ s.val + 10 ∧ s.val ≤ t.val + 10

instance (t s : Fin 150) : Decidable (near t s) := inferInstanceAs (Decidable (_ ∧ _))

/-- The score of step `s` for step `t`, were it in the band. -/
def tRaw (x : A3 16 150 57) (w1 w2 : A3 2 57 57) (c a : A2 2 57) (b : Fin 16) (h : Fin 2) (t s : Fin 150) : EReal :=
  ∑ d : Fin 57, a (ix2 h d) * lky (tL x w1 b h t d + tL x w2 b h s d + c (ix2 h d))

/-- The score of step `s` for step `t`: minus infinity outside the band. -/
def tScore (x : A3 16 150 57) (w1 w2 : A3 2 57 57) (c a : A2 2 57) (b : Fin 16) (h : Fin 2) (t s : Fin 150) : EReal :=
  if near t s then tRaw x w1 w2 c a b h t s else ⊥

/-- The time attention. -/
def tAtt (x : A3 16 150 57) (w1 w2 : A3 2 57 57) (c a : A2 2 57) (b : Fin 16) (t : Fin 150) (f : Fin 57) : EReal :=
  sgm (Ideal.div (∑ h : Fin 2, ∑ s : Fin 150, smax (tScore x w1 w2 c a b h t) s * x (ix3 b s f)) 2)

/-- The two attentions through the fusing layer. -/
def fused (hf ht : Fin 16 → Fin 150 → Fin 57 → EReal) (w : A2 114 57) (c : A1 57) (b : Fin 16) (t : Fin 150) (f : Fin 57) : EReal :=
  (∑ k : Fin 57, hf b t k * w (ix2 ⟨k.val, by omega⟩ f)) + (∑ k : Fin 57, ht b t k * w (ix2 ⟨57 + k.val, by omega⟩ f)) + c (ix1 f)

/-- A gate's input side: `g` is the gate's number. -/
def gin (u : Fin 57 → EReal) (w : A2 450 57) (c : A1 450) (g : Fin 3) (d : Fin 150) : EReal :=
  (∑ f : Fin 57, u f * w (ix2 ⟨150 * g.val + d.val, by omega⟩ f)) + c (ix1 ⟨150 * g.val + d.val, by omega⟩)

/-- A gate's hidden side. -/
def ghid (p : Fin 150 → EReal) (w : A2 450 150) (c : A1 450) (g : Fin 3) (d : Fin 150) : EReal :=
  (∑ k : Fin 150, p k * w (ix2 ⟨150 * g.val + d.val, by omega⟩ k)) + c (ix1 ⟨150 * g.val + d.val, by omega⟩)

/-- One step of the recurrence. -/
def gru (wi : A2 450 57) (wh : A2 450 150) (ci ch : A1 450) (u : Fin 57 → EReal) (p : Fin 150 → EReal) (d : Fin 150) : EReal :=
  (1 - sgm (gin u wi ci 1 d + ghid p wh ch 1 d))
      * Ideal.tanh (gin u wi ci 2 d + sgm (gin u wi ci 0 d + ghid p wh ch 0 d) * ghid p wh ch 2 d)
    + sgm (gin u wi ci 1 d + ghid p wh ch 1 d) * p d

/-- The state of batch element `b` after `n` steps. -/
def hid (wi : A2 450 57) (wh : A2 450 150) (ci ch : A1 450) (u : Fin 16 → Fin 150 → Fin 57 → EReal) (b : Fin 16) : Nat → Fin 150 → EReal
  | 0 => fun _ => 0
  | n + 1 => if h : n < 150 then gru wi wh ci ch (u b ⟨n, h⟩) (hid wi wh ci ch u b n) else hid wi wh ci ch u b n

theorem hid_succ (wi : A2 450 57) (wh : A2 450 150) (ci ch : A1 450) (u : Fin 16 → Fin 150 → Fin 57 → EReal) (b : Fin 16) (n : Nat)
    (h : n < 150) : hid wi wh ci ch u b (n + 1) = gru wi wh ci ch (u b ⟨n, h⟩) (hid wi wh ci ch u b n) := by
  rw [hid, dif_pos h]

/-- The head on the last state. -/
def head (p : Fin 16 → Fin 150 → EReal) (w : A2 150 3) (c : A1 3) (b : Fin 16) (o : Fin 3) : EReal :=
  (∑ k : Fin 150, p b k * w (ix2 k o)) + c (ix1 o)

theorem ofBits_al : Ideal.ofBits .f32 0x3E4CCCCD#32 = al := by
  simp [Ideal.ofBits, Ideal.ieee, -EReal.coe_mul]; norm_num

theorem ofBits_two : Ideal.ofBits .f32 0x40000000#32 = 2 := by
  simp [Ideal.ofBits, Ideal.ieee, -EReal.coe_mul]; norm_num; rfl

theorem ofBits_half : Ideal.ofBits .f32 0x3F000000#32 = ((1 / 2 : ℝ) : EReal) := by
  simp [Ideal.ofBits, Ideal.ieee, -EReal.coe_mul]; norm_num

theorem ofBits_bot : Ideal.ofBits .f32 0xFF800000#32 = ⊥ := by
  simp [Ideal.ofBits, Ideal.ieee]

end Cert.Proof.Spec
-- ==== Proof.SpecMath.lean ====
/- Laws of the network's mathematics: the softmax without its greatest score, the mean of two heads, sums over padded
lanes and over the band. -/
module

public import proofs.«01_k».proof.Proof.Spec

@[expose] public section

noncomputable section

namespace Cert.Proof.Spec

open Idealize.ShloMosaic Cert.Proof.Math

/-- The greatest of finitely many scores is a real, if one score is and none is plus infinity. -/
theorem top_real {n : Nat} (e : Fin n → EReal) (htop : ∀ k, e k ≠ ⊤) (k₀ : Fin n) (hk : e k₀ ≠ ⊥) : IsReal (top e) := by
  unfold top
  rw [max_eq_right bot_le]
  exact fold_max_real e htop k₀ hk

/-- Scores that differ from `g` by one real have `g`'s exponentials over their sum for a softmax. -/
theorem smax_shift {n : Nat} (e g : Fin n → EReal) (r : ℝ) (he : ∀ k, e k = g k + (r : EReal)) (htop : ∀ k, e k ≠ ⊤) (k₀ : Fin n)
    (hk : e k₀ ≠ ⊥) (j : Fin n) : smax e j = Ideal.div (Ideal.exp (g j)) (∑ k, Ideal.exp (g k)) := by
  obtain ⟨t, ht⟩ := top_real e htop k₀ hk
  have h : ∀ k, e k - top e = g k + ((r - t : ℝ) : EReal) := fun k => by
    rw [he, ht, sub_eq_add_neg, add_assoc, ← EReal.coe_neg, ← EReal.coe_add, sub_eq_add_neg]
  unfold smax
  simp only [h]
  exact softmax_add g g j (r - t)

/-- The softmax is the exponentials over their sum. -/
theorem smax_eq {n : Nat} (e : Fin n → EReal) (htop : ∀ k, e k ≠ ⊤) (k₀ : Fin n) (hk : e k₀ ≠ ⊥) (j : Fin n) :
    smax e j = Ideal.div (Ideal.exp (e j)) (∑ k, Ideal.exp (e k)) :=
  smax_shift e e 0 (fun k => by simp) htop k₀ hk j

theorem smax_isReal {n : Nat} (e : Fin n → EReal) (htop : ∀ k, e k ≠ ⊤) (k₀ : Fin n) (hk : e k₀ ≠ ⊥) (j : Fin n) :
    IsReal (smax e j) := by
  rw [smax_eq e htop k₀ hk]
  exact softmax_real e htop k₀ hk _ (htop j)

/-- A score of minus infinity weighs nothing. -/
theorem smax_bot {n : Nat} (e : Fin n → EReal) (htop : ∀ k, e k ≠ ⊤) (k₀ : Fin n) (hk : e k₀ ≠ ⊥) (j : Fin n) (hj : e j = ⊥) :
    smax e j = 0 := by
  have hr := smax_isReal e htop k₀ hk j
  rw [smax_eq e htop k₀ hk] at hr ⊢
  rw [hj, show Ideal.exp ⊥ = 0 by simp] at hr ⊢
  unfold Ideal.div at hr ⊢
  by_cases h0 : (∑ k, Ideal.exp (e k)) = 0
  · rw [if_pos h0, if_neg (lt_irrefl _)] at hr
    obtain ⟨r, hr⟩ := hr
    exact absurd hr (EReal.bot_ne_coe r)
  · rw [if_neg h0, zero_mul]

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Half of each head's weights summed is the heads' sums halved. -/
theorem mean_heads {n : Nat} (p : Fin 2 → Fin n → EReal) (x : Fin n → EReal) (hp : ∀ h j, IsReal (p h j)) (hx : ∀ j, IsReal (x j)) :
    ∑ j, (((1 / 2 : ℝ) : EReal) * (p 0 j + p 1 j)) * x j = Ideal.div (∑ h : Fin 2, ∑ j, p h j * x j) 2 := by
  choose p' hp' using hp
  choose x' hx' using hx
  rw [show (2 : EReal) = ((2 : ℝ) : EReal) from rfl, Ideal.div_coe (by norm_num)]
  simp only [Fin.sum_univ_two, hp', hx', ← EReal.coe_add, ← EReal.coe_mul, ← coe_sum]
  congr 1
  rw [← Finset.sum_add_distrib, Finset.sum_mul]
  refine Finset.sum_congr rfl fun j _ => ?_
  ring

/-- A sum over 256 lanes of which only the first 150 count. -/
theorem sum_pad (f : Fin 256 → EReal) (hz : ∀ l : Fin 256, 150 ≤ l.val → f l = 0) :
    ∑ l, f l = ∑ d : Fin 150, f ⟨d.val, by omega⟩ := by
  have h := Fin.sum_univ_add (a := 150) (b := 106) f
  rw [h, Finset.sum_eq_zero (s := Finset.univ) (f := fun i : Fin 106 => f (Fin.natAdd 150 i)) fun i _ => hz _ (by simp), add_zero]
  rfl

/-- A sum over two heads' lanes of 256. -/
theorem sum_heads_512 (f : Fin 512 → EReal) :
    ∑ l, f l = ∑ h : Fin 2, ∑ d : Fin 256, f ⟨256 * h.val + d.val, by omega⟩ := by
  rw [Fin.sum_univ_two]
  refine (Fin.sum_univ_add (a := 256) (b := 256) f).trans ?_
  refine congrArg₂ (· + ·) (Finset.sum_congr rfl fun d _ => congrArg f (Fin.ext ?_)) (Finset.sum_congr rfl fun d _ => congrArg f (Fin.ext ?_))
  · simp
  · simp [Nat.add_comm]

/-- A sum over two heads' lanes of 57. -/
theorem sum_heads_114 (f : Fin 114 → EReal) :
    ∑ l, f l = ∑ h : Fin 2, ∑ d : Fin 57, f ⟨57 * h.val + d.val, by omega⟩ := by
  rw [Fin.sum_univ_two]
  refine (Fin.sum_univ_add (a := 57) (b := 57) f).trans ?_
  refine congrArg₂ (· + ·) (Finset.sum_congr rfl fun d _ => congrArg f (Fin.ext ?_)) (Finset.sum_congr rfl fun d _ => congrArg f (Fin.ext ?_))
  · simp
  · simp [Nat.add_comm]

/-- The step `k - 10` away from `t`, if there is one. -/
def hop (t : Fin 150) (k : Fin 21) : Prop := 10 ≤ t.val + k.val ∧ t.val + k.val - 10 < 150

instance (t : Fin 150) (k : Fin 21) : Decidable (hop t k) := inferInstanceAs (Decidable (_ ∧ _))

/-- That step. -/
def land (t : Fin 150) (k : Fin 21) (h : hop t k) : Fin 150 := ⟨t.val + k.val - 10, h.2⟩

/-- Going through the twenty-one offsets is going through the band. -/
theorem sum_band (t : Fin 150) (G : Fin 150 → EReal) :
    (∑ k : Fin 21, if h : hop t k then G (land t k h) else 0) = ∑ s : Fin 150, if near t s then G s else 0 := by
  classical
  rw [← Finset.sum_filter, Finset.sum_dite, Finset.sum_const_zero, add_zero]
  refine Finset.sum_bij' (fun k _ => land t k.1 ((Finset.mem_filter.mp k.2).2))
    (fun s hs => ⟨⟨s.val + 10 - t.val, by have := (Finset.mem_filter.mp hs).2; unfold near at this; omega⟩, ?_⟩) ?_ ?_ ?_ ?_ ?_
  · have := (Finset.mem_filter.mp hs).2
    unfold near at this
    have := s.isLt
    refine Finset.mem_filter.mpr ⟨Finset.mem_univ _, ?_⟩
    show 10 ≤ t.val + (s.val + 10 - t.val) ∧ t.val + (s.val + 10 - t.val) - 10 < 150
    omega
  · intro k _
    have hk : hop t k.1 := (Finset.mem_filter.mp k.2).2
    unfold hop at hk
    have := k.1.isLt
    refine Finset.mem_filter.mpr ⟨Finset.mem_univ _, ?_⟩
    show t.val ≤ t.val + k.1.val - 10 + 10 ∧ t.val + k.1.val - 10 ≤ t.val + 10
    omega
  · intro s _; exact Finset.mem_attach _ _
  · intro k _
    have hk : hop t k.1 := (Finset.mem_filter.mp k.2).2
    unfold hop at hk
    apply Subtype.ext; apply Fin.ext
    simp only [land]
    omega
  · intro s hs
    have := (Finset.mem_filter.mp hs).2
    unfold near at this
    apply Fin.ext
    simp only [land]
    omega
  · intro k _; rfl

/-! ### Everything the scores are made of is real -/

theorem fL_real {x : A3 16 150 57} {w : A3 2 150 150} (hx : ∀ i, IsReal (x i)) (hw : ∀ i, IsReal (w i)) (b : Fin 16) (h : Fin 2) (i : Fin 57)
    (d : Fin 150) : IsReal (fL x w b h i d) :=
  IsReal.sum _ fun _ => (hw _).mul (hx _)

theorem tL_real {x : A3 16 150 57} {w : A3 2 57 57} (hx : ∀ i, IsReal (x i)) (hw : ∀ i, IsReal (w i)) (b : Fin 16) (h : Fin 2) (t : Fin 150)
    (d : Fin 57) : IsReal (tL x w b h t d) :=
  IsReal.sum _ fun _ => (hw _).mul (hx _)

theorem fScore_real {x : A3 16 150 57} {w1 w2 : A3 2 150 150} {c a : A2 2 150} (hx : ∀ i, IsReal (x i)) (h1 : ∀ i, IsReal (w1 i))
    (h2 : ∀ i, IsReal (w2 i)) (hc : ∀ i, IsReal (c i)) (ha : ∀ i, IsReal (a i)) (b : Fin 16) (h : Fin 2) (i j : Fin 57) :
    IsReal (fScore x w1 w2 c a b h i j) :=
  IsReal.sum _ fun _ => (ha _).mul (((fL_real hx h1 _ _ _ _).add (fL_real hx h2 _ _ _ _)).add (hc _)).lky

theorem tRaw_real {x : A3 16 150 57} {w1 w2 : A3 2 57 57} {c a : A2 2 57} (hx : ∀ i, IsReal (x i)) (h1 : ∀ i, IsReal (w1 i))
    (h2 : ∀ i, IsReal (w2 i)) (hc : ∀ i, IsReal (c i)) (ha : ∀ i, IsReal (a i)) (b : Fin 16) (h : Fin 2) (t s : Fin 150) :
    IsReal (tRaw x w1 w2 c a b h t s) :=
  IsReal.sum _ fun _ => (ha _).mul (((tL_real hx h1 _ _ _ _).add (tL_real hx h2 _ _ _ _)).add (hc _)).lky

theorem near_self (t : Fin 150) : near t t := ⟨by omega, by omega⟩

theorem tScore_ne_top {x : A3 16 150 57} {w1 w2 : A3 2 57 57} {c a : A2 2 57} (hx : ∀ i, IsReal (x i)) (h1 : ∀ i, IsReal (w1 i))
    (h2 : ∀ i, IsReal (w2 i)) (hc : ∀ i, IsReal (c i)) (ha : ∀ i, IsReal (a i)) (b : Fin 16) (h : Fin 2) (t s : Fin 150) :
    tScore x w1 w2 c a b h t s ≠ ⊤ := by
  unfold tScore
  by_cases hn : near t s
  · rw [if_pos hn]; exact IsReal.ne_top (tRaw_real hx h1 h2 hc ha b h t s)
  · rw [if_neg hn]; exact bot_ne_top

theorem tScore_self_ne_bot {x : A3 16 150 57} {w1 w2 : A3 2 57 57} {c a : A2 2 57} (hx : ∀ i, IsReal (x i)) (h1 : ∀ i, IsReal (w1 i))
    (h2 : ∀ i, IsReal (w2 i)) (hc : ∀ i, IsReal (c i)) (ha : ∀ i, IsReal (a i)) (b : Fin 16) (h : Fin 2) (t : Fin 150) :
    tScore x w1 w2 c a b h t t ≠ ⊥ := by
  unfold tScore
  rw [if_pos (near_self t)]
  exact IsReal.ne_bot (tRaw_real hx h1 h2 hc ha b h t t)

/-! ### The feature score without its row's part -/

/-- The part of a feature score that the kernel keeps. -/
def fPart (x : A3 16 150 57) (w1 w2 : A3 2 150 150) (c a : A2 2 150) (b : Fin 16) (h : Fin 2) (i j : Fin 57) : EReal :=
  om * (∑ d : Fin 150, max ((fL x w2 b h j d + c (ix2 h d)) + fL x w1 b h i d) 0 * a (ix2 h d))
    + (∑ d : Fin 150, (fL x w2 b h j d + c (ix2 h d)) * a (ix2 h d)) * al

/-- A feature's softmax is that of the parts kept. -/
theorem smax_fScore {x : A3 16 150 57} {w1 w2 : A3 2 150 150} {c a : A2 2 150} (hx : ∀ i, IsReal (x i)) (h1 : ∀ i, IsReal (w1 i))
    (h2 : ∀ i, IsReal (w2 i)) (hc : ∀ i, IsReal (c i)) (ha : ∀ i, IsReal (a i)) (b : Fin 16) (h : Fin 2) (i j : Fin 57) :
    smax (fScore x w1 w2 c a b h i) j
      = Ideal.div (Ideal.exp (fPart x w1 w2 c a b h i j)) (∑ k, Ideal.exp (fPart x w1 w2 c a b h i k)) := by
  obtain ⟨r, hr⟩ : IsReal (al * ∑ d : Fin 150, fL x w1 b h i d * a (ix2 h d)) :=
    (isReal_coe _).mul (IsReal.sum _ fun _ => (fL_real hx h1 _ _ _ _).mul (ha _))
  refine smax_shift _ (fPart x w1 w2 c a b h i) r (fun k => ?_) (fun k => IsReal.ne_top (fScore_real hx h1 h2 hc ha b h i k)) j
    (IsReal.ne_bot (fScore_real hx h1 h2 hc ha b h i j)) j
  rw [← hr]
  unfold fPart fScore
  rw [← score_split (fun d => fL x w1 b h i d) (fun d => fL x w2 b h k d + c (ix2 h d)) (fun d => a (ix2 h d))
    (fun d => fL_real hx h1 _ _ _ _) (fun d => (fL_real hx h2 _ _ _ _).add (hc _)) (fun d => ha _)]
  refine Finset.sum_congr rfl fun d _ => ?_
  rw [mul_comm, add_assoc]

end Cert.Proof.Spec
-- ==== Proof.KernelIdx.lean ====
/- The kernel's stages read at an index. -/
module

public import proofs.«01_k».proof.Proof.KernelStage
public import proofs.«01_k».proof.Proof.SpecMath
public import Idealize.ShloMosaic.Lib.Pointwise
public import Idealize.ShloMosaic.Lib.Pipeline.Value

@[expose] public section

set_option maxRecDepth 16384

noncomputable section

namespace Cert.Proof.Ker

open Cert.KernelIdeal Cert.KernelIdeal.Gen Idealize.ShloMosaic Idealize.ShloMosaic.TcCoe
open Cert.Proof.Math Cert.Proof.Spec Idealize.SL Idealize.SL.Sem

theorem named_om : Named.named (F := Ideal) (φ := .f32) κ "om" 0x3F4CCCCD#32 = om := by
  have h : κ "om" = some om := rfl
  exact IdealRules.named_const.ideal_named_scalar κ "om" _ om h

theorem named_mask : Named.named (F := Ideal) (φ := .f32) κ "mask" 0xCE6E6B28#32 = (⊥ : EReal) := by
  have h : κ "mask" = some ⊥ := rfl
  exact IdealRules.named_const.ideal_named_scalar κ "mask" _ ⊥ h

theorem logistic_sgm (u : EReal) : Ideal.logistic u = sgm u := rfl

/-- The row of step `t` of batch element `b` in a step-major matrix. -/
def row (t : Fin 150) (b : Fin 16) : Fin 2400 := ⟨16 * t.val + b.val, by omega⟩

/-! ### Feature attention -/

theorem q_at (x0 : FVec Ideal S912x150 .f32) (x4 : FVec Ideal S150x512 .f32) (x5 : FVec Ideal S1x512 .f32) (x7 : FVec Ideal S512x2 .f32)
    (r : Fin 912) (h : Fin 2) : k0_pay7 x0 x4 x5 x7 (ix2 r h)
      = (∑ l : Fin 512, ((∑ t : Fin 150, x0 (ix2 r t) * x4 (ix2 t l)) + x5 (ix2 0 l)) * x7 (ix2 l h)) * al := by
  pointwise [k0_pay7, k0_pay6, k0_pay4]
  rw [ofBits_al]

theorem li_at (x0 : FVec Ideal S912x150 .f32) (x3 : FVec Ideal S150x512 .f32) (b : Fin 16) (i : Fin 57) (l : Fin 512) :
    k0_pay8 x0 x3 (ix3 b i l) = ∑ t : Fin 150, x0 (ix2 ⟨b.val * 57 + i.val, by omega⟩ t) * x3 (ix2 t l) := by
  pointwise [k0_pay8, k0_pay4]

theorem lj_at (x0 : FVec Ideal S912x150 .f32) (x4 : FVec Ideal S150x512 .f32) (x5 : FVec Ideal S1x512 .f32) (b : Fin 16) (i : Fin 57)
    (l : Fin 512) :
    k0_pay9 x0 x4 x5 (ix3 b i l) = (∑ t : Fin 150, x0 (ix2 ⟨b.val * 57 + i.val, by omega⟩ t) * x4 (ix2 t l)) + x5 (ix2 0 l) := by
  pointwise [k0_pay9, k0_pay6, k0_pay4]

theorem a_at (x5 : FVec Ideal S1x512 .f32) (l : Fin 512) : k0_pay10 x5 (ix3 0 0 l) = x5 (ix2 0 l) := by
  pointwise [k0_pay10]

theorem pairs_at (b : Fin 16) (li lj : FVec Ideal S16x57x512 .f32) (a : FVec Ideal S1x1x512 .f32) (j i : Fin 57) (l : Fin 512) :
    pairs b li lj a (ix3 j i l) = max (lj (ix3 b j l) + li (ix3 b i l)) 0 * a (ix3 0 0 l) := by
  pointwise [pairs, zf]

theorem headScore_at (s : FVec Ideal S57x57 .f32) (b : Fin 16) (h : Fin 2) (q : FVec Ideal S912x2 .f32) (j i : Fin 57) :
    headScore s b h q (ix2 j i) = om * s (ix2 j i) + q (ix2 ⟨57 * b.val + j.val, by omega⟩ h) := by
  refine congrArg₂ (· + ·) (congrArg (· * s (ix2 j i)) named_om) ?_
  pointwise []

theorem scores_at0 (b : Fin 16) (q : FVec Ideal S912x2 .f32) (s : FVec Ideal S57x57x512 .f32) (j i : Fin 57) :
    scores b q s (ix2 j ⟨57 * (0 : Fin 2).val + i.val, by omega⟩)
      = om * (∑ l : Fin 256, s (ix3 j i ⟨256 * (0 : Fin 2).val + l.val, by omega⟩)) + q (ix2 ⟨57 * b.val + j.val, by omega⟩ 0) := by
  refine (concatenate_pair_apply_left (t := S57x114) (s₁ := S57x57) (s₂ := S57x57) (1 : Fin 2) _ _ _ _ rfl (ix2 j i)
    (fun d => by fin_cases d <;> simp)).trans ((headScore_at _ _ _ _ _ _).trans ?_)
  refine congrArg (fun u => om * u + q (ix2 ⟨57 * b.val + j.val, by omega⟩ 0)) ?_
  pointwise []

theorem scores_at1 (b : Fin 16) (q : FVec Ideal S912x2 .f32) (s : FVec Ideal S57x57x512 .f32) (j i : Fin 57) :
    scores b q s (ix2 j ⟨57 * (1 : Fin 2).val + i.val, by omega⟩)
      = om * (∑ l : Fin 256, s (ix3 j i ⟨256 * (1 : Fin 2).val + l.val, by omega⟩)) + q (ix2 ⟨57 * b.val + j.val, by omega⟩ 1) := by
  refine (concatenate_pair_apply_right (t := S57x114) (s₁ := S57x57) (s₂ := S57x57) (1 : Fin 2) _ _ _ _ rfl rfl (ix2 j i)
    (fun d hd => by fin_cases d <;> simp at hd ⊢) (by simp; omega)).trans ((headScore_at _ _ _ _ _ _).trans ?_)
  refine congrArg (fun u => om * u + q (ix2 ⟨57 * b.val + j.val, by omega⟩ 1)) ?_
  pointwise []

/-- A head's score is the clamped part weighted by `om` plus the head's linear part. -/
theorem scores_at (b : Fin 16) (q : FVec Ideal S912x2 .f32) (s : FVec Ideal S57x57x512 .f32) (j i : Fin 57) (h : Fin 2) :
    scores b q s (ix2 j ⟨57 * h.val + i.val, by omega⟩)
      = om * (∑ l : Fin 256, s (ix3 j i ⟨256 * h.val + l.val, by omega⟩)) + q (ix2 ⟨57 * b.val + j.val, by omega⟩ h) := by
  obtain rfl | rfl : h = 0 ∨ h = 1 := by omega
  · exact scores_at0 b q s j i
  · exact scores_at1 b q s j i

theorem weights_at (e : FVec Ideal S57x114 .f32) (j : Fin 57) (i : Fin 114) :
    weights e (ix2 j i) = Ideal.div (Ideal.exp (e (ix2 j i))) (∑ k : Fin 57, Ideal.exp (e (ix2 k i))) := by
  pointwise [weights]

theorem meanHead_at (p : FVec Ideal S57x114 .f32) (j i : Fin 57) :
    meanHead p (ix2 j i) = ((1 / 2 : ℝ) : EReal)
      * (p (ix2 j ⟨57 * (0 : Fin 2).val + i.val, by omega⟩) + p (ix2 j ⟨57 * (1 : Fin 2).val + i.val, by omega⟩)) := by
  pointwise [meanHead]
  rw [ofBits_half]

theorem featB_at (b : Fin 16) (q : FVec Ideal S912x2 .f32) (li lj : FVec Ideal S16x57x512 .f32) (a : FVec Ideal S1x1x512 .f32)
    (x : FVec Ideal S16x150x57 .f32) (t : Fin 150) (i : Fin 57) :
    featB b q li lj a x (ix2 t i) = ∑ j : Fin 57, x (ix3 b t j) * meanHead (weights (scores b q (pairs b li lj a))) (ix2 j i) := by
  pointwise [featB]

theorem stack_at (f : Fin 16 → FVec Ideal S150x57 .f32) (t : Fin 150) (b : Fin 16) (i : Fin 57) :
    stack f (ix2 (row t b) i) = f b (ix2 t i) := by
  unfold row
  pointwise [stack, unitB]
  fin_cases b <;> simp

theorem featH_at (q : FVec Ideal S912x2 .f32) (li lj : FVec Ideal S16x57x512 .f32) (a : FVec Ideal S1x1x512 .f32)
    (x : FVec Ideal S16x150x57 .f32) (t : Fin 150) (b : Fin 16) (i : Fin 57) :
    featH q li lj a x (ix2 (row t b) i) = sgm (featB b q li lj a x (ix2 t i)) := by
  rw [← stack_at (fun b => featB b q li lj a x) t b i]
  rfl

end Cert.Proof.Ker
-- ==== Proof.KernelTime.lean ====
/- The kernel's time attention, gates and loop read at an index. -/
module

public import proofs.«01_k».proof.Proof.KernelIdx

@[expose] public section

set_option maxRecDepth 16384

noncomputable section

namespace Cert.Proof.Ker

open Cert.KernelIdeal Cert.KernelIdeal.Gen Idealize.ShloMosaic Idealize.ShloMosaic.TcCoe
open Cert.Proof.Math Cert.Proof.Spec Idealize.SL Idealize.SL.Sem

/-! ### Banded time attention -/

/-- The moved rows at step `t` are step `t + k - 10`'s, zero where there is no such step. -/
theorem shift_at {l : Nat} (k : Fin 21) (m : FVec Ideal (mat 2400 l) .f32) (t : Fin 150) (b : Fin 16) (c : Fin l) :
    shift k m (ix2 (row t b) c) = if h : hop t k then m (ix2 (row (land t k h) b) c) else 0 := by
  have hb := b.isLt
  have ht := t.isLt
  have hk := k.isLt
  have hz : (zf : EReal) = 0 := by
    show Ideal.ofBits .f32 0x00000000#32 = 0
    simp [Ideal.ofBits, Ideal.ieee]
  unfold shift
  by_cases h1 : k.val < 10
  · rw [if_pos h1]
    by_cases hh : hop t k
    · rw [dif_pos hh]
      have h0 := hh.1
      refine (concatenate_pair_apply_right (t := mat 2400 l) (s₁ := mat (16 * (10 - k.val)) l)
        (s₂ := mat (2400 - 16 * (10 - k.val)) l) (0 : Fin 2) _ _ _ _ rfl rfl
        (ix2 ⟨16 * (t.val + k.val - 10) + b.val, by omega⟩ c) ?_ ?_).trans ?_
      · intro d hd
        fin_cases d
        · exact absurd rfl hd
        · rfl
      · show 16 * (t.val + k.val - 10) + b.val + 16 * (10 - k.val) = 16 * t.val + b.val
        omega
      · refine congrArg m (funext fun d => Fin.ext ?_)
        fin_cases d
        · show 0 + (16 * (t.val + k.val - 10) + b.val) = 16 * (t.val + k.val - 10) + b.val
          omega
        · show 0 + c.val = c.val
          omega
    · rw [dif_neg hh]
      have h0 : t.val + k.val < 10 := by unfold hop at hh; omega
      refine (concatenate_pair_apply_left (t := mat 2400 l) (s₁ := mat (16 * (10 - k.val)) l)
        (s₂ := mat (2400 - 16 * (10 - k.val)) l) (0 : Fin 2) _ _ _ _ rfl
        (ix2 ⟨16 * t.val + b.val, by omega⟩ c) ?_).trans hz
      intro d
      fin_cases d <;> rfl
  · rw [if_neg h1]
    by_cases h2 : k.val = 10
    · rw [if_pos h2, dif_pos (show hop t k from ⟨by omega, by omega⟩)]
      refine congrArg m (funext fun d => Fin.ext ?_)
      fin_cases d
      · show 16 * t.val + b.val = 16 * (t.val + k.val - 10) + b.val
        omega
      · rfl
    · rw [if_neg h2]
      by_cases hh : hop t k
      · rw [dif_pos hh]
        have h0 := hh.2
        refine (concatenate_pair_apply_left (t := mat 2400 l) (s₁ := mat (2400 - 16 * (k.val - 10)) l)
          (s₂ := mat (16 * (k.val - 10)) l) (0 : Fin 2) _ _ _ _ rfl
          (ix2 ⟨16 * t.val + b.val, by omega⟩ c) ?_).trans ?_
        · intro d
          fin_cases d <;> rfl
        · refine congrArg m (funext fun d => Fin.ext ?_)
          fin_cases d
          · show 16 * (k.val - 10) + (16 * t.val + b.val) = 16 * (t.val + k.val - 10) + b.val
            omega
          · show 0 + c.val = c.val
            omega
      · rw [dif_neg hh]
        have h0 : 150 ≤ t.val + k.val - 10 := by unfold hop at hh; omega
        refine (concatenate_pair_apply_right (t := mat 2400 l) (s₁ := mat (2400 - 16 * (k.val - 10)) l)
          (s₂ := mat (16 * (k.val - 10)) l) (0 : Fin 2) _ _ _ _ rfl rfl
          (ix2 ⟨16 * t.val + b.val - (2400 - 16 * (k.val - 10)), by omega⟩ c) ?_ ?_).trans hz
        · intro d hd
          fin_cases d
          · exact absurd rfl hd
          · rfl
        · show 16 * t.val + b.val - (2400 - 16 * (k.val - 10)) + (2400 - 16 * (k.val - 10)) = 16 * t.val + b.val
          omega

/-- The validity word says whether there is a step `t + k - 10`. -/
theorem valid_word (t : Fin 150) (k : Fin 21) :
    IntOp.andi (IntOp.cmpi .sge (IntOp.addi (BitVec.ofNat 32 t.val) (BitVec.ofNat 32 (k.val + 4294967286))) 0#32)
      (IntOp.cmpi .slt (IntOp.addi (BitVec.ofNat 32 t.val) (BitVec.ofNat 32 (k.val + 4294967286))) 150#32)
      = if hop t k then 1#1 else 0#1 := by
  revert t k; decide +kernel

theorem stepOf_at (t : Fin 150) (b : Fin 16) : (k0_pay57 : IVec S2400x1 32) (ix2 (row t b) 0) = BitVec.ofNat 32 t.val := by
  unfold row
  pointwise [k0_pay57]

theorem pairT_at (k : Fin 21) (ti tj : FVec Ideal S2400x114 .f32) (r : Fin 2400) (l : Fin 114) :
    pairT k ti tj (ix2 r l) = lky (ti (ix2 r l) + shift (l := 114) k tj (ix2 r l)) := by
  pointwise [pairT]
  rw [ofBits_al]
  rfl

theorem colT_at (a : FVec Ideal S1x114 .f32) (ti tj : FVec Ideal S2400x114 .f32) (k : Fin 21) (t : Fin 150) (b : Fin 16) :
    colT a k0_pay57 ti tj k (ix2 (row t b) 0) = if h : hop t k then
      ∑ l : Fin 114, lky (ti (ix2 (row t b) l) + tj (ix2 (row (land t k h) b) l)) * a (ix2 0 l) else ⊥ := by
  have hm := named_mask
  have hs : colT a k0_pay57 ti tj k (ix2 (row t b) 0)
      = Scalar.select (IntOp.andi (IntOp.cmpi .sge (IntOp.addi (k0_pay57 (ix2 (row t b) 0)) (BitVec.ofNat 32 (k.val + 4294967286))) 0#32)
          (IntOp.cmpi .slt (IntOp.addi (k0_pay57 (ix2 (row t b) 0)) (BitVec.ofNat 32 (k.val + 4294967286))) 150#32))
        (∑ l : Fin 114, pairT k ti tj (ix2 (row t b) l) * a (ix2 0 l)) ⊥ := by
    rw [← named_mask]
    generalize row t b = r
    pointwise [colT, valid]
  rw [hs, stepOf_at, valid_word]
  by_cases h : hop t k
  · rw [if_pos h, dif_pos h]
    show (∑ l : Fin 114, (pairT k ti tj (ix2 (row t b) l) : EReal) * a (ix2 0 l)) = _
    refine Finset.sum_congr rfl fun l _ => ?_
    rw [pairT_at, shift_at, dif_pos h]
  · rw [if_neg h, dif_neg h]
    rfl

theorem cols_at (c : Fin 21 → FVec Ideal S2400x1 .f32) (r : Fin 2400) (k : Fin 21) : cols c (ix2 r k) = c k (ix2 r 0) :=
  concatenate_ofFn_apply (t := S2400x21) (s₁ := S2400x1) (1 : Fin 2) c
    concatenates_S2400x1_S2400x1_S2400x1_S2400x1_S2400x1_S2400x1_S2400x1_S2400x1_S2400x1_S2400x1_S2400x1_S2400x1_S2400x1_S2400x1_S2400x1_S2400x1_S2400x1_S2400x1_S2400x1_S2400x1_S2400x1_S2400x21_d1
    rfl 1 rfl (ix2 r k) k (Nat.div_one _) (ix2 r 0) (Nat.mod_one _).symm fun d hd => by
      fin_cases d
      · rfl
      · exact absurd rfl hd

theorem weightsT_at (e : FVec Ideal S2400x21 .f32) (r : Fin 2400) (k : Fin 21) :
    weightsT e (ix2 r k) = Ideal.div (Ideal.exp (e (ix2 r k))) (∑ j : Fin 21, Ideal.exp (e (ix2 r j))) := by
  pointwise [weightsT]

theorem meanT_at (a0 a1 : FVec Ideal S1x114 .f32) (tv : IVec S2400x1 32) (ti tj : FVec Ideal S2400x114 .f32) (r : Fin 2400) (k : Fin 21) :
    meanT a0 a1 tv ti tj (ix2 r k) = ((1 / 2 : ℝ) : EReal)
      * (weightsT (cols (colT a0 tv ti tj)) (ix2 r k) + weightsT (cols (colT a1 tv ti tj)) (ix2 r k)) := by
  pointwise [meanT]
  rw [ofBits_half]

theorem termT_at (w : FVec Ideal S2400x21 .f32) (x : FVec Ideal S2400x57 .f32) (k : Fin 21) (r : Fin 2400) (f : Fin 57) :
    termT w x k (ix2 r f) = w (ix2 r k) * shift (l := 57) k x (ix2 r f) := by
  pointwise [termT]

theorem accT_at (w : FVec Ideal S2400x21 .f32) (x : FVec Ideal S2400x57 .f32) (r : Fin 2400) (f : Fin 57) (n : Nat) (hn : n ≤ 21) :
    accT w x n (ix2 r f) = ∑ k : Fin n, w (ix2 r ⟨k.val, by omega⟩) * shift (l := 57) ⟨k.val, by omega⟩ x (ix2 r f) := by
  induction n with
  | zero =>
    show Ideal.ofBits .f32 0x00000000#32 = _
    simp [Ideal.ofBits, Ideal.ieee]
  | succ n ih =>
    rw [accT, dif_pos (by omega), Fin.sum_univ_castSucc]
    exact congrArg₂ (· + ·) (ih (by omega)) (termT_at w x ⟨n, by omega⟩ r f)

theorem timeH_at (a0 a1 : FVec Ideal S1x114 .f32) (ti tj : FVec Ideal S2400x114 .f32) (x : FVec Ideal S2400x57 .f32) (t : Fin 150)
    (b : Fin 16) (f : Fin 57) :
    timeH a0 a1 ti tj x (ix2 (row t b) f) = sgm (∑ k : Fin 21, meanT a0 a1 k0_pay57 ti tj (ix2 (row t b) k)
      * if h : hop t k then x (ix2 (row (land t k h) b) f) else 0) := by
  refine congrArg sgm ((accT_at _ _ _ _ 21 le_rfl).trans (Finset.sum_congr rfl fun k _ => ?_))
  rw [shift_at]

theorem ti_at (x : FVec Ideal S2400x57 .f32) (w : FVec Ideal S57x114 .f32) (r : Fin 2400) (l : Fin 114) :
    k0_pay53 (F := Ideal) (k0_pay5 x) w (ix2 r l) = ∑ f : Fin 57, x (ix2 r f) * w (ix2 f l) := by
  pointwise [k0_pay53, k0_pay5]

theorem tj_at (x : FVec Ideal S2400x57 .f32) (w : FVec Ideal S57x114 .f32) (c : FVec Ideal S1x114 .f32) (r : Fin 2400) (l : Fin 114) :
    k0_pay54 (F := Ideal) (k0_pay5 x) w c (ix2 r l) = (∑ f : Fin 57, x (ix2 r f) * w (ix2 f l)) + c (ix2 0 l) := by
  pointwise [k0_pay54, k0_pay5]

theorem row0_at (a : FVec Ideal S2x114 .f32) (l : Fin 114) :
    k0_pay55 (extractStridedSlice S1x114 ![0, 0] a (rowX 0)) (ix2 0 l) = a (ix2 0 l) := by
  pointwise [k0_pay55]

theorem row1_at (a : FVec Ideal S2x114 .f32) (l : Fin 114) :
    k0_pay56 (extractStridedSlice S1x114 ![1, 0] a (rowX 1)) (ix2 0 l) = a (ix2 1 l) := by
  pointwise [k0_pay56]

/-! ### Fusion, gates and loop -/

theorem fusedH_at (hf ht : FVec Ideal S2400x57 .f32) (wf wt : FVec Ideal S57x57 .f32) (r : Fin 2400) (f : Fin 57) :
    fusedH hf ht wf wt (ix2 r f) = (∑ k : Fin 57, hf (ix2 r k) * wf (ix2 k f)) + ∑ k : Fin 57, ht (ix2 r k) * wt (ix2 k f) := by
  pointwise [fusedH]

theorem gate_at (u : FVec Ideal S2400x57 .f32) (c : FVec Ideal S1x57 .f32) (w : FVec Ideal S57x768 .f32) (d : FVec Ideal S1x768 .f32)
    (r : Fin 2400) (l : Fin 768) :
    k0_pay164 u (k0_pay163 c) w d (ix2 r l) = (∑ f : Fin 57, (u (ix2 r f) + c (ix2 0 f)) * w (ix2 f l)) + d (ix2 0 l) := by
  pointwise [k0_pay164, k0_pay163]

theorem stepK_at (w : FVec Ideal S150x768 .f32) (c : FVec Ideal S1x150 .f32) (p : FVec Ideal S16x150 .f32) (g : FVec Ideal S16x768 .f32)
    (b : Fin 16) (d : Fin 150) : k0_pay2 (k0_pay165 w) c p g (ix2 b d)
      = (1 - sgm (g (ix2 b ⟨256 + d.val, by omega⟩) + ∑ k : Fin 150, p (ix2 b k) * w (ix2 k ⟨256 + d.val, by omega⟩)))
        * Ideal.tanh (g (ix2 b ⟨512 + d.val, by omega⟩)
          + sgm (g (ix2 b ⟨d.val, by omega⟩) + ∑ k : Fin 150, p (ix2 b k) * w (ix2 k ⟨d.val, by omega⟩))
            * ((∑ k : Fin 150, p (ix2 b k) * w (ix2 k ⟨512 + d.val, by omega⟩)) + c (ix2 0 d)))
        + sgm (g (ix2 b ⟨256 + d.val, by omega⟩) + ∑ k : Fin 150, p (ix2 b k) * w (ix2 k ⟨256 + d.val, by omega⟩)) * p (ix2 b d) := by
  pointwise [k0_pay2, k0_pay165]
  simp only [logistic_sgm]

theorem rows_at (g : FVec Ideal S2400x768 .f32) (t : Fin 150) (b : Fin 16) (l : Fin 768) :
    extractStridedSlice S16x768 ![16 * t.val, 0] g (rowG t) (ix2 b l) = g (ix2 (row t b) l) := by
  refine congrArg g (funext fun d => Fin.ext ?_)
  fin_cases d
  · rfl
  · show 0 + l.val = l.val
    omega

theorem start_at (b : Fin 16) (d : Fin 150) : (k0_pay1 : FVec Ideal S16x150 .f32) (ix2 b d) = 0 := by
  pointwise [k0_pay1]

theorem headK_at (p : FVec Ideal S16x150 .f32) (w : FVec Ideal S150x3 .f32) (c : FVec Ideal S1x3 .f32) (b : Fin 16) (o : Fin 3) :
    k0_pay3 p w c (ix2 b o) = (∑ k : Fin 150, p (ix2 b k) * w (ix2 k o)) + c (ix2 0 o) := by
  pointwise [k0_pay3]

end Cert.Proof.Ker
-- ==== Proof.KernelRun.lean ====
/- The value the kernel's one grid point leaves in its output block, as the composed stages of its input blocks. -/
module

public import proofs.«01_k».proof.Proof.KernelStage
public import Idealize.ShloMosaic.Lib.Pipeline.ValueKit.Tiles
import Idealize.ShloMosaic.Lib.Pointwise

@[expose] public section

set_option maxRecDepth 100000

noncomputable section

namespace Cert.Proof.Ker

open Cert.KernelIdeal Cert.KernelIdeal.Gen Idealize.ShloMosaic Idealize.ShloMosaic.TcCoe
open Idealize.SL Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- A load through a unit-stride rectangle is the slice at its offset. -/
theorem ld_slice {s : Shape} {e : EltTy} (X : s.Idx → Elt Ideal e) (off size : Fin s.rank → Nat)
    (inb : ∀ a, off a + size a ≤ s.size a) :
    View.ld (Val := Elt Ideal) X (Rect.unit off size inb) = extractStridedSlice ⟨s.rank, size⟩ off X ⟨rfl, inb⟩ := by
  funext x
  exact congrArg X (funext fun a => Fin.ext (Rect.idx_unit_val _ _ _ _ _))

/-- A load of a whole matrix is the matrix. -/
theorem ld_whole {e : EltTy} {n l : Nat} (X : (mat n l).Idx → Elt Ideal e) (inb) :
    View.ld X (Rect.unit ![0, 0] ![n, l] inb) = X :=
  View.ld_unit_zero (S := mat n l) hz inb X

/-- The gate rows a trip loads are the slice at its row. -/
theorem ld_row (g : FVec Ideal S2400x768 .f32) (k : Fin k0_t1_loop.trips) (h : S2400x768.Slices ![16 * k.val, 0] S16x768) :
    View.ld (Val := Elt Ideal) (e' := .f32) g (Rect.unit (s := S2400x768) (k0_off1 k) S16x768.size (k0_off1_inb k))
      = extractStridedSlice S16x768 ![16 * k.val, 0] g h := by
  funext x
  refine congrArg g (funext fun a => Fin.ext ?_)
  refine (Rect.idx_unit_val _ _ _ _ _).trans ?_
  exact congrArg (· + (x a).val) (congrFun (k0_off1_eq k) a)

/-- A load of a whole staged matrix is the matrix. -/
theorem readAt_whole {e : EltTy} {n l : Nat} {sp : Space} (a : Memref sig .tc sp (mat n l) e) (h : a.IsWhole)
    (x : (mat n l).Idx → Elt Ideal e) (inb) :
    View.readAt (Elt Ideal) a.view (Rect.unit ![0, 0] ![n, l] inb).toLoadRect (h.unread x) = x := by
  rw [View.readAt_eq_ld, h.read_unread, ld_whole]

/-- The fused rows of equal parts. -/
theorem fusedH_eq {hf hf' ht ht' : FVec Ideal S2400x57 .f32} {wf wt : FVec Ideal S57x57 .f32} (h1 : hf = hf') (h2 : ht = ht') :
    addf (matmul dot_S2400x57_S57x57_S2400x57_1_0_0_1_n_n none hf (shapeCast S57x57 wf shapeCasts_S57x57_S57x57)
        (constant S2400x57 .f32 0x00000000#32))
      (matmul dot_S2400x57_S57x57_S2400x57_1_0_0_1_n_n none ht (shapeCast S57x57 wt shapeCasts_S57x57_S57x57)
        (constant S2400x57 .f32 0x00000000#32)) = fusedH hf' ht' wf wt := by
  subst h1 h2; rfl

section

variable
    (c : Dev nD) (arg0 : Memref sig .tc .vmem S912x150 .f32) (harg0 : arg0.IsWhole)
    (arg1 : Memref sig .tc .vmem S2400x57 .f32) (harg1 : arg1.IsWhole) (arg2 : Memref sig .tc .vmem S16x150x57 .f32)
    (harg2 : arg2.IsWhole) (arg3 : Memref sig .tc .vmem S150x512 .f32) (harg3 : arg3.IsWhole)
    (arg4 : Memref sig .tc .vmem S150x512 .f32) (harg4 : arg4.IsWhole) (arg5 : Memref sig .tc .vmem S1x512 .f32)
    (harg5 : arg5.IsWhole) (arg6 : Memref sig .tc .vmem S1x512 .f32) (harg6 : arg6.IsWhole)
    (arg7 : Memref sig .tc .vmem S512x2 .f32) (harg7 : arg7.IsWhole) (arg8 : Memref sig .tc .vmem S57x114 .f32)
    (harg8 : arg8.IsWhole) (arg9 : Memref sig .tc .vmem S57x114 .f32) (harg9 : arg9.IsWhole)
    (arg10 : Memref sig .tc .vmem S1x114 .f32) (harg10 : arg10.IsWhole) (arg11 : Memref sig .tc .vmem S2x114 .f32)
    (harg11 : arg11.IsWhole) (arg12 : Memref sig .tc .vmem S57x57 .f32) (harg12 : arg12.IsWhole)
    (arg13 : Memref sig .tc .vmem S57x57 .f32) (harg13 : arg13.IsWhole) (arg14 : Memref sig .tc .vmem S1x57 .f32)
    (harg14 : arg14.IsWhole) (arg15 : Memref sig .tc .vmem S57x768 .f32) (harg15 : arg15.IsWhole)
    (arg16 : Memref sig .tc .vmem S150x768 .f32) (harg16 : arg16.IsWhole) (arg17 : Memref sig .tc .vmem S1x768 .f32)
    (harg17 : arg17.IsWhole) (arg18 : Memref sig .tc .vmem S1x150 .f32) (harg18 : arg18.IsWhole)
    (arg19 : Memref sig .tc .vmem S150x3 .f32) (harg19 : arg19.IsWhole) (arg20 : Memref sig .tc .vmem S1x3 .f32)
    (harg20 : arg20.IsWhole) (arg21 : Memref sig .tc .vmem S16x3 .f32) (harg21 : arg21.IsWhole)
    (arg22 : Memref sig .tc .vmem S2400x768 .f32) (harg22 : arg22.IsWhole)

/-- The loop's carried value after `n` trips, when its scratch operand reads as `g`. -/
theorem loop_eq (x16 : FVec Ideal S150x768 .f32) (x18 : FVec Ideal S1x150 .f32)
    (X : BufTy.Contents (Elt Ideal) arg22.view.ty) (g : FVec Ideal S2400x768 .f32) (hX : arg22.view.read (Elt Ideal) X = g)
    (n : Nat) (hn : n ≤ 150) :
      st_k0_t1 (F := Ideal) Variants.none c none
        arg0 harg0 arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18 arg19 harg19 arg20 harg20 arg21 harg21 arg22 harg22
        (k0_pay165 x16) x18 X k0_pay1 n = state g x16 x18 n := by
  induction n with
  | zero => rfl
  | succ n ih =>
    have hn' : n < 150 := hn
    have ht : n < k0_t1_loop.trips := hn'
    rw [st_k0_t1_succ (F := Ideal) (k := ⟨n, ht⟩)]
    rw [ih (Nat.le_of_lt hn)]
    rw [state_succ g x16 x18 n hn']
    unfold tripR_k0_t1 trip_k0_t1
    dsimp only
    rw [View.readAt_eq_ld, hX]
    rw [ld_row g ⟨n, ht⟩ (rowG ⟨n, hn'⟩)]

set_option maxHeartbeats 1000000 in
/-- What the one grid point leaves in the output block. -/
theorem out_eq
    (x0 : Vec Ideal S912x150 .f32) (x1 : Vec Ideal S2400x57 .f32) (x2 : Vec Ideal S16x150x57 .f32)
    (x3 : Vec Ideal S150x512 .f32) (x4 : Vec Ideal S150x512 .f32) (x5 : Vec Ideal S1x512 .f32)
    (x6 : Vec Ideal S1x512 .f32) (x7 : Vec Ideal S512x2 .f32) (x8 : Vec Ideal S57x114 .f32)
    (x9 : Vec Ideal S57x114 .f32) (x10 : Vec Ideal S1x114 .f32) (x11 : Vec Ideal S2x114 .f32)
    (x12 : Vec Ideal S57x57 .f32) (x13 : Vec Ideal S57x57 .f32) (x14 : Vec Ideal S1x57 .f32)
    (x15 : Vec Ideal S57x768 .f32) (x16 : Vec Ideal S150x768 .f32) (x17 : Vec Ideal S1x768 .f32)
    (x18 : Vec Ideal S1x150 .f32) (x19 : Vec Ideal S150x3 .f32) (x20 : Vec Ideal S1x3 .f32) :
    out0_A_21 (F := Ideal) c
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22
      x0 x1 x2 x3 x4 x5 x6 x7 x8 x9 x10 x11 x12 x13 x14 x15 x16 x17 x18 x19 x20
      = k0_pay3 (state (gates x0 x1 x2 x3 x4 x5 x6 x7 x8 x9 x10 x11 x12 x13 x14 x15 x17) x16 x18 150) x19 x20 := by
  unfold out0_A_21
  rw [View.read_writes_junk_eq_canon]
  unfold kernelRun0_A
  dsimp only
  unfold kernelRun0_A.sl.HS0_1
  sl_unfold_words
  rw [readAt_whole arg1 harg1 x1]
  simp only [View.readAt_eq_ld, Memref.IsWhole.read_unread]
  rw [View.canon_unit_zero hz]
  simp only [ld_whole]
  refine congrArg (fun h => k0_pay3 h x19 x20) ?_
  refine loop_eq (hX := ?_) (n := 150) (hn := Nat.le_refl _) ..
  rw [View.read_writes_junk_eq_canon, View.canon_unit_zero hz]
  simp only [ld_slice]
  refine congrArg₂ (fun a b => k0_pay164 (F := Ideal) a b x15 x17) ?_ rfl
  refine fusedH_eq ?_ ?_
  · unfold featH stack
    unfold k0_pay52
    dsimp only
    refine congrArg logistic (congrArg (fun h => shapeCast S2400x57 h shapeCasts_S150x16x57_S2400x57) ?_)
    simp only [k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51]
    generalize k0_pay7 x0 x4 x5 x7 = q
    generalize k0_pay8 x0 x3 = li
    generalize k0_pay9 x0 x4 x5 = lj
    generalize k0_pay10 x6 = a
    simp only [featB, meanHead, weights, scores, headScore, pairs]
    rfl
  · unfold timeH
    refine congrArg logistic ?_
    simp only [k0_pay58, k0_pay59, k0_pay60, k0_pay61, k0_pay155]
    generalize k0_pay53 (k0_pay5 x1) x8 = ti
    generalize k0_pay54 (k0_pay5 x1) x9 x10 = tj
    generalize k0_pay5 x1 = x
    generalize k0_pay55 _ = a0
    generalize k0_pay56 _ = a1
    generalize hM : k0_pay153 (F := Ideal) _ _ _ _ _ _ _ _ _ _ _ _ _ _ _ _ _ _ _ _ _ _ _ _ _ _ _ _ _ _ _ _ _ _ _ _ _ _
      _ _ _ _ _ _ _ _ = M
    have hM' : M = meanT a0 a1 k0_pay57 ti tj := by
      rw [← hM]
      generalize k0_pay57 = tv
      simp only [k0_pay153, k0_pay58, k0_pay59, k0_pay60, k0_pay61, k0_pay62, k0_pay63, k0_pay64, k0_pay65, k0_pay66,
        k0_pay67, k0_pay68, k0_pay69, k0_pay70, k0_pay71, k0_pay72, k0_pay73, k0_pay74, k0_pay75, k0_pay76, k0_pay77,
        k0_pay78, k0_pay79, k0_pay80, k0_pay81, k0_pay82, k0_pay83, k0_pay84, k0_pay85, k0_pay86, k0_pay87, k0_pay88,
        k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109,
        k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139,
        k0_pay140, k0_pay141, k0_pay142, k0_pay143, k0_pay144, k0_pay145, k0_pay146, k0_pay147, k0_pay148, k0_pay149,
        k0_pay150, k0_pay151, k0_pay152]
      unfold meanT weightsT
      rw [cols_eq (c := colT a0 tv ti tj), cols_eq (c := colT a1 tv ti tj)]
      all_goals rfl
    rw [← hM']
    rfl

end

end Cert.Proof.Ker
-- ==== Proof.KernelOut.lean ====
/- The kernel's result array as the composed stages of the arrays the host lines leave. -/
module

public import proofs.«01_k».proof.Proof.KernelRun
import Idealize.ShloMosaic.Lib.Pipeline.ValueKit.Geometry

@[expose] public section

set_option maxRecDepth 16384

noncomputable section

namespace Cert.Proof.Ker

open Cert.KernelIdeal Cert.KernelIdeal.Gen Cert.KernelIdeal.Value Idealize.ShloMosaic Idealize.ShloMosaic.TcCoe
open Idealize.SL Idealize.SL.Sem Pipeline

variable (m : (ℓ : Loc nD τ sig) → Buf (Elt Ideal) ℓ) (ρ : Dev nD → PrngReg)

/-- The result as one function of the arrays the host lines leave. -/
def result (c : Dev nD) : FVec Ideal S16x3 .f32 :=
  k0_pay3 (state (gates
      (V m c main_v1) (V m c main_v3) (V m c main_arg0) (V m c main_v10) (V m c main_v17) (V m c main_v22) (V m
      c main_v27) (V m c main_v39) (V m c main_v44) (V m c main_v49) (V m c main_v55) (V m c main_v65) (V m c
      main_v102) (V m c main_v103) (V m c main_v104) (V m c main_v78) (V m c main_v99))
    (V m c main_v85) (V m c main_v101) 150) (V m c main_arg15) (V m c main_v105)

/-- A block at index zero keeps every coordinate. -/
theorem emb_id (w : Window sig grid0) (t : Fin grid0.N) (h : ∀ a, w.index t a = 0) (y : (w.xblock (grid0.coords t)).Idx) (a) :
    ((w.rect t).emb y a : Nat) = y a :=
  Window.rect_emb_val_of_index_zero w t a (h a) y

theorem blk0 (c : Dev nD) (t : Fin cfg0.N) : iblk m c 0 t = V m c main_v1 := by
  funext j
  show V m c main_v1 (((cfg0.win 0).blk t).view.emb j) = V m c main_v1 j
  rw [show ((cfg0.win 0).blk t).view.emb j = j from
    funext fun a => Fin.ext (emb_id (cfg0.win 0) t (fun _ => rfl) j a)]

theorem blk1 (c : Dev nD) (t : Fin cfg0.N) : iblk m c 1 t = V m c main_v3 := by
  funext j
  show V m c main_v3 (((cfg0.win 1).blk t).view.emb j) = V m c main_v3 j
  rw [show ((cfg0.win 1).blk t).view.emb j = j from
    funext fun a => Fin.ext (emb_id (cfg0.win 1) t (fun _ => rfl) j a)]

theorem blk2 (c : Dev nD) (t : Fin cfg0.N) : iblk m c 2 t = V m c main_arg0 := by
  funext j
  show V m c main_arg0 (((cfg0.win 2).blk t).view.emb j) = V m c main_arg0 j
  rw [show ((cfg0.win 2).blk t).view.emb j = j from
    funext fun a => Fin.ext (emb_id (cfg0.win 2) t (fun _ => rfl) j a)]

theorem blk3 (c : Dev nD) (t : Fin cfg0.N) : iblk m c 3 t = V m c main_v10 := by
  funext j
  show V m c main_v10 (((cfg0.win 3).blk t).view.emb j) = V m c main_v10 j
  rw [show ((cfg0.win 3).blk t).view.emb j = j from
    funext fun a => Fin.ext (emb_id (cfg0.win 3) t (fun _ => rfl) j a)]

theorem blk4 (c : Dev nD) (t : Fin cfg0.N) : iblk m c 4 t = V m c main_v17 := by
  funext j
  show V m c main_v17 (((cfg0.win 4).blk t).view.emb j) = V m c main_v17 j
  rw [show ((cfg0.win 4).blk t).view.emb j = j from
    funext fun a => Fin.ext (emb_id (cfg0.win 4) t (fun _ => rfl) j a)]

theorem blk5 (c : Dev nD) (t : Fin cfg0.N) : iblk m c 5 t = V m c main_v22 := by
  funext j
  show V m c main_v22 (((cfg0.win 5).blk t).view.emb j) = V m c main_v22 j
  rw [show ((cfg0.win 5).blk t).view.emb j = j from
    funext fun a => Fin.ext (emb_id (cfg0.win 5) t (fun _ => rfl) j a)]

theorem blk6 (c : Dev nD) (t : Fin cfg0.N) : iblk m c 6 t = V m c main_v27 := by
  funext j
  show V m c main_v27 (((cfg0.win 6).blk t).view.emb j) = V m c main_v27 j
  rw [show ((cfg0.win 6).blk t).view.emb j = j from
    funext fun a => Fin.ext (emb_id (cfg0.win 6) t (fun _ => rfl) j a)]

theorem blk7 (c : Dev nD) (t : Fin cfg0.N) : iblk m c 7 t = V m c main_v39 := by
  funext j
  show V m c main_v39 (((cfg0.win 7).blk t).view.emb j) = V m c main_v39 j
  rw [show ((cfg0.win 7).blk t).view.emb j = j from
    funext fun a => Fin.ext (emb_id (cfg0.win 7) t (fun _ => rfl) j a)]

theorem blk8 (c : Dev nD) (t : Fin cfg0.N) : iblk m c 8 t = V m c main_v44 := by
  funext j
  show V m c main_v44 (((cfg0.win 8).blk t).view.emb j) = V m c main_v44 j
  rw [show ((cfg0.win 8).blk t).view.emb j = j from
    funext fun a => Fin.ext (emb_id (cfg0.win 8) t (fun _ => rfl) j a)]

theorem blk9 (c : Dev nD) (t : Fin cfg0.N) : iblk m c 9 t = V m c main_v49 := by
  funext j
  show V m c main_v49 (((cfg0.win 9).blk t).view.emb j) = V m c main_v49 j
  rw [show ((cfg0.win 9).blk t).view.emb j = j from
    funext fun a => Fin.ext (emb_id (cfg0.win 9) t (fun _ => rfl) j a)]

theorem blk10 (c : Dev nD) (t : Fin cfg0.N) : iblk m c 10 t = V m c main_v55 := by
  funext j
  show V m c main_v55 (((cfg0.win 10).blk t).view.emb j) = V m c main_v55 j
  rw [show ((cfg0.win 10).blk t).view.emb j = j from
    funext fun a => Fin.ext (emb_id (cfg0.win 10) t (fun _ => rfl) j a)]

theorem blk11 (c : Dev nD) (t : Fin cfg0.N) : iblk m c 11 t = V m c main_v65 := by
  funext j
  show V m c main_v65 (((cfg0.win 11).blk t).view.emb j) = V m c main_v65 j
  rw [show ((cfg0.win 11).blk t).view.emb j = j from
    funext fun a => Fin.ext (emb_id (cfg0.win 11) t (fun _ => rfl) j a)]

theorem blk12 (c : Dev nD) (t : Fin cfg0.N) : iblk m c 12 t = V m c main_v102 := by
  funext j
  show V m c main_v102 (((cfg0.win 12).blk t).view.emb j) = V m c main_v102 j
  rw [show ((cfg0.win 12).blk t).view.emb j = j from
    funext fun a => Fin.ext (emb_id (cfg0.win 12) t (fun _ => rfl) j a)]

theorem blk13 (c : Dev nD) (t : Fin cfg0.N) : iblk m c 13 t = V m c main_v103 := by
  funext j
  show V m c main_v103 (((cfg0.win 13).blk t).view.emb j) = V m c main_v103 j
  rw [show ((cfg0.win 13).blk t).view.emb j = j from
    funext fun a => Fin.ext (emb_id (cfg0.win 13) t (fun _ => rfl) j a)]

theorem blk14 (c : Dev nD) (t : Fin cfg0.N) : iblk m c 14 t = V m c main_v104 := by
  funext j
  show V m c main_v104 (((cfg0.win 14).blk t).view.emb j) = V m c main_v104 j
  rw [show ((cfg0.win 14).blk t).view.emb j = j from
    funext fun a => Fin.ext (emb_id (cfg0.win 14) t (fun _ => rfl) j a)]

theorem blk15 (c : Dev nD) (t : Fin cfg0.N) : iblk m c 15 t = V m c main_v78 := by
  funext j
  show V m c main_v78 (((cfg0.win 15).blk t).view.emb j) = V m c main_v78 j
  rw [show ((cfg0.win 15).blk t).view.emb j = j from
    funext fun a => Fin.ext (emb_id (cfg0.win 15) t (fun _ => rfl) j a)]

theorem blk16 (c : Dev nD) (t : Fin cfg0.N) : iblk m c 16 t = V m c main_v85 := by
  funext j
  show V m c main_v85 (((cfg0.win 16).blk t).view.emb j) = V m c main_v85 j
  rw [show ((cfg0.win 16).blk t).view.emb j = j from
    funext fun a => Fin.ext (emb_id (cfg0.win 16) t (fun _ => rfl) j a)]

theorem blk17 (c : Dev nD) (t : Fin cfg0.N) : iblk m c 17 t = V m c main_v99 := by
  funext j
  show V m c main_v99 (((cfg0.win 17).blk t).view.emb j) = V m c main_v99 j
  rw [show ((cfg0.win 17).blk t).view.emb j = j from
    funext fun a => Fin.ext (emb_id (cfg0.win 17) t (fun _ => rfl) j a)]

theorem blk18 (c : Dev nD) (t : Fin cfg0.N) : iblk m c 18 t = V m c main_v101 := by
  funext j
  show V m c main_v101 (((cfg0.win 18).blk t).view.emb j) = V m c main_v101 j
  rw [show ((cfg0.win 18).blk t).view.emb j = j from
    funext fun a => Fin.ext (emb_id (cfg0.win 18) t (fun _ => rfl) j a)]

theorem blk19 (c : Dev nD) (t : Fin cfg0.N) : iblk m c 19 t = V m c main_arg15 := by
  funext j
  show V m c main_arg15 (((cfg0.win 19).blk t).view.emb j) = V m c main_arg15 j
  rw [show ((cfg0.win 19).blk t).view.emb j = j from
    funext fun a => Fin.ext (emb_id (cfg0.win 19) t (fun _ => rfl) j a)]

theorem blk20 (c : Dev nD) (t : Fin cfg0.N) : iblk m c 20 t = V m c main_v105 := by
  funext j
  show V m c main_v105 (((cfg0.win 20).blk t).view.emb j) = V m c main_v105 j
  rw [show ((cfg0.win 20).blk t).view.emb j = j from
    funext fun a => Fin.ext (emb_id (cfg0.win 20) t (fun _ => rfl) j a)]

/-- What the one grid point leaves is the result. -/
theorem outs_eq (c : Dev nD) (t : Fin cfg0.N) : outsAt0 m c t = result m c := by
  unfold outsAt0 result
  rw [out_eq]
  rw [blk0, blk1, blk2, blk3, blk4, blk5, blk6, blk7, blk8, blk9, blk10,
    blk11, blk12, blk13, blk14, blk15, blk16, blk17, blk18, blk19, blk20]

/-- The result array after the run. -/
theorem final (c : Dev nD) : (dats m 0 c).arrAt 21 cfg0.N = result m c := by
  refine Dat.arrAt_eq_of_after_last (dats m 0 c) 21 ⟨0, by decide⟩ (by decide +kernel) (result m c) fun j => ?_
  rw [after0_21]
  exact congrFun (outs_eq m c _) j

end Cert.Proof.Ker
-- ==== Proof.KernelHost.lean ====
/- What the buffers the kernel is launched on hold: each one as the host operations build it from the arguments. -/
module

public import proofs.«01_k».proof.Proof.KernelOut
public import Idealize.ShloMosaic.Lib.StableHlo.RunRead

@[expose] public section

set_option maxRecDepth 16384

noncomputable section

namespace Cert.Proof.Ker

open Cert.KernelIdeal Cert.KernelIdeal.Gen Cert.KernelIdeal.Value Idealize.ShloMosaic Idealize.ShloMosaic.TcCoe
open Idealize.SL Idealize.SL.Sem Idealize.ShloMosaic.StableHlo

variable (m : (ℓ : Loc nD τ sig) → Buf (Elt Ideal) ℓ)

/-- The padding value: the integer zero as a float. -/
def zpad : FVec Ideal S_ .f32 := sitofp .f32 (constantI S_ 32 0#32)

/-- Both heads' square weights side by side, each head in its own 256 lanes. -/
def sideBySide (w : FVec Ideal S2x150x150 .f32) : FVec Ideal S150x512 .f32 :=
  concatenate S150x512 1
    [⟨S150x256, pad S150x256 ![0, 0] ![0, 106] ![0, 0] (shapeCast S150x150 (extractStridedSlice S1x150x150 ![0, 0, 0] w slices_S2x150x150_S1x150x150_0_0_0) shapeCasts_S1x150x150_S150x150) zpad pads_S150x150_S150x256_000_01060 h_S_⟩,
     ⟨S150x256, pad S150x256 ![0, 0] ![0, 106] ![0, 0] (shapeCast S150x150 (extractStridedSlice S1x150x150 ![1, 0, 0] w slices_S2x150x150_S1x150x150_1_0_0) shapeCasts_S1x150x150_S150x150) zpad pads_S150x150_S150x256_000_01060 h_S_⟩]
    concatenates_S150x256_S150x256_S150x512_d1

/-- One head's row of 150 numbers, padded to 256 lanes. -/
def padRow0 (b : FVec Ideal S2x150 .f32) : FVec Ideal S1x256 .f32 :=
  pad S1x256 ![0, 0] ![0, 106] ![0, 0] (extractStridedSlice S1x150 ![0, 0] b slices_S2x150_S1x150_0_0) zpad pads_S1x150_S1x256_000_01060 h_S_

/-- The other head's. -/
def padRow1 (b : FVec Ideal S2x150 .f32) : FVec Ideal S1x256 .f32 :=
  pad S1x256 ![0, 0] ![0, 106] ![0, 0] (extractStridedSlice S1x150 ![1, 0] b slices_S2x150_S1x150_1_0) zpad pads_S1x150_S1x256_000_01060 h_S_

/-- Both heads' rows side by side. -/
def rowSideBySide (b : FVec Ideal S2x150 .f32) : FVec Ideal S1x512 .f32 :=
  concatenate S1x512 1 [⟨S1x256, padRow0 b⟩, ⟨S1x256, padRow1 b⟩] concatenates_S1x256_S1x256_S1x512_d1

/-- Each head's row in its own lanes and its own column, the other lanes zero. -/
def headColumns (a : FVec Ideal S2x150 .f32) : FVec Ideal S512x2 .f32 :=
  concatenate S512x2 1
    [⟨S512x1, broadcastInDim S512x1 ![0] bcast_S512_S512x1_0 (concatenate S512 0
        [⟨S256, shapeCast S256 (padRow0 a) shapeCasts_S1x256_S256⟩,
         ⟨S256, broadcastInDim S256 ![] bcast_S_S256 (constant (F := Ideal) S_ .f32 0x00000000#32)⟩] concatenates_S256_S256_S512_d0)⟩,
     ⟨S512x1, broadcastInDim S512x1 ![0] bcast_S512_S512x1_0 (concatenate S512 0
        [⟨S256, broadcastInDim S256 ![] bcast_S_S256 (constant (F := Ideal) S_ .f32 0x00000000#32)⟩,
         ⟨S256, shapeCast S256 (padRow1 a) shapeCasts_S1x256_S256⟩] concatenates_S256_S256_S512_d0)⟩]
    concatenates_S512x1_S512x1_S512x2_d1

/-- Both heads' time weights side by side. -/
def timeSide (w : FVec Ideal S2x57x57 .f32) : FVec Ideal S57x114 .f32 :=
  concatenate S57x114 1
    [⟨S57x57, shapeCast S57x57 (extractStridedSlice S1x57x57 ![0, 0, 0] w slices_S2x57x57_S1x57x57_0_0_0) shapeCasts_S1x57x57_S57x57⟩,
     ⟨S57x57, shapeCast S57x57 (extractStridedSlice S1x57x57 ![1, 0, 0] w slices_S2x57x57_S1x57x57_1_0_0) shapeCasts_S1x57x57_S57x57⟩]
    concatenates_S57x57_S57x57_S57x114_d1

/-- Head 0's row of 57 numbers, flat. -/
def flat0 (b : FVec Ideal S2x57 .f32) : FVec Ideal S57 .f32 :=
  shapeCast S57 (extractStridedSlice S1x57 ![0, 0] b slices_S2x57_S1x57_0_0) shapeCasts_S1x57_S57

/-- Head 1's. -/
def flat1 (b : FVec Ideal S2x57 .f32) : FVec Ideal S57 .f32 :=
  shapeCast S57 (extractStridedSlice S1x57 ![1, 0] b slices_S2x57_S1x57_1_0) shapeCasts_S1x57_S57

/-- Both heads' time rows side by side, one row. -/
def timeRow (b : FVec Ideal S2x57 .f32) : FVec Ideal S1x114 .f32 :=
  shapeCast S1x114 (concatenate S114 0 [⟨S57, flat0 b⟩, ⟨S57, flat1 b⟩] concatenates_S57_S57_S114_d0) shapeCasts_S114_S1x114

/-- Each head's time row in its own lanes and its own row, the other lanes zero. -/
def timeRows (a : FVec Ideal S2x57 .f32) : FVec Ideal S2x114 .f32 :=
  concatenate S2x114 0
    [⟨S1x114, broadcastInDim S1x114 ![1] bcast_S114_S1x114_1 (concatenate S114 0
        [⟨S57, flat0 a⟩, ⟨S57, broadcastInDim S57 ![] bcast_S_S57 (constant (F := Ideal) S_ .f32 0x00000000#32)⟩] concatenates_S57_S57_S114_d0)⟩,
     ⟨S1x114, broadcastInDim S1x114 ![1] bcast_S114_S1x114_1 (concatenate S114 0
        [⟨S57, broadcastInDim S57 ![] bcast_S_S57 (constant (F := Ideal) S_ .f32 0x00000000#32)⟩, ⟨S57, flat1 a⟩] concatenates_S57_S57_S114_d0)⟩]
    concatenates_S1x114_S1x114_S2x114_d0

/-- The input weights, transposed, each gate's third in its own 256 lanes. -/
def gatesIn (w : FVec Ideal S450x57 .f32) : FVec Ideal S57x768 .f32 :=
  concatenate S57x768 1
    [⟨S57x256, pad S57x256 ![0, 0] ![0, 106] ![0, 0] (transpose (α := Ideal .f32) S57x150 [1, 0] (extractStridedSlice S150x57 ![0, 0] w slices_S450x57_S150x57_0_0) transposes_S150x57_S57x150_1_0) zpad pads_S57x150_S57x256_000_01060 h_S_⟩,
     ⟨S57x256, pad S57x256 ![0, 0] ![0, 106] ![0, 0] (transpose (α := Ideal .f32) S57x150 [1, 0] (extractStridedSlice S150x57 ![150, 0] w slices_S450x57_S150x57_150_0) transposes_S150x57_S57x150_1_0) zpad pads_S57x150_S57x256_000_01060 h_S_⟩,
     ⟨S57x256, pad S57x256 ![0, 0] ![0, 106] ![0, 0] (transpose (α := Ideal .f32) S57x150 [1, 0] (extractStridedSlice S150x57 ![300, 0] w slices_S450x57_S150x57_300_0) transposes_S150x57_S57x150_1_0) zpad pads_S57x150_S57x256_000_01060 h_S_⟩]
    concatenates_S57x256_S57x256_S57x256_S57x768_d1

/-- The hidden weights, transposed, each gate's third in its own 256 lanes. -/
def gatesHid (w : FVec Ideal S450x150 .f32) : FVec Ideal S150x768 .f32 :=
  concatenate S150x768 1
    [⟨S150x256, pad S150x256 ![0, 0] ![0, 106] ![0, 0] (transpose (α := Ideal .f32) S150x150 [1, 0] (extractStridedSlice S150x150 ![0, 0] w slices_S450x150_S150x150_0_0) transposes_S150x150_S150x150_1_0) zpad pads_S150x150_S150x256_000_01060 h_S_⟩,
     ⟨S150x256, pad S150x256 ![0, 0] ![0, 106] ![0, 0] (transpose (α := Ideal .f32) S150x150 [1, 0] (extractStridedSlice S150x150 ![150, 0] w slices_S450x150_S150x150_150_0) transposes_S150x150_S150x150_1_0) zpad pads_S150x150_S150x256_000_01060 h_S_⟩,
     ⟨S150x256, pad S150x256 ![0, 0] ![0, 106] ![0, 0] (transpose (α := Ideal .f32) S150x150 [1, 0] (extractStridedSlice S150x150 ![300, 0] w slices_S450x150_S150x150_300_0) transposes_S150x150_S150x150_1_0) zpad pads_S150x150_S150x256_000_01060 h_S_⟩]
    concatenates_S150x256_S150x256_S150x256_S150x768_d1

/-- One gate's bias row, padded. -/
def padBias (b : FVec Ideal S150 .f32) : FVec Ideal S1x256 .f32 :=
  pad S1x256 ![0, 0] ![0, 106] ![0, 0] (shapeCast S1x150 b shapeCasts_S150_S1x150) zpad pads_S1x150_S1x256_000_01060 h_S_

/-- The input-side biases: both biases for the first two gates, the input bias alone for the third. -/
def gatesBias (bi bh : FVec Ideal S450 .f32) : FVec Ideal S1x768 .f32 :=
  concatenate S1x768 1
    [⟨S1x256, padBias (addf (extractStridedSlice S150 ![0] bi slices_S450_S150_0) (extractStridedSlice S150 ![0] bh slices_S450_S150_0))⟩,
     ⟨S1x256, padBias (addf (extractStridedSlice S150 ![150] bi slices_S450_S150_150) (extractStridedSlice S150 ![150] bh slices_S450_S150_150))⟩,
     ⟨S1x256, padBias (extractStridedSlice S150 ![300] bi slices_S450_S150_300)⟩]
    concatenates_S1x256_S1x256_S1x256_S1x768_d1

theorem V_main_v1 (c : Dev nD) : V m c main_v1 = shapeCast S912x150 (transpose (α := Ideal .f32) S16x57x150 [0, 2, 1] (m ((c : Thread nD τ).loc main_arg0)) transposes_S16x150x57_S16x57x150_0_2_1) shapeCasts_S16x57x150_S912x150 := by
  unfold V
  simp only [List.flatten_cons, List.flatten_nil, List.append_nil, StableHlo.after_append]
  after_reads_simp
  rfl

theorem V_main_v3 (c : Dev nD) : V m c main_v3 = shapeCast S2400x57 (transpose (α := Ideal .f32) S150x16x57 [1, 0, 2] (m ((c : Thread nD τ).loc main_arg0)) transposes_S16x150x57_S150x16x57_1_0_2) shapeCasts_S150x16x57_S2400x57 := by
  unfold V
  simp only [List.flatten_cons, List.flatten_nil, List.append_nil, StableHlo.after_append]
  after_reads_simp
  rfl

theorem V_main_v10 (c : Dev nD) : V m c main_v10 = sideBySide (m ((c : Thread nD τ).loc main_arg1)) := by
  unfold V
  simp only [List.flatten_cons, List.flatten_nil, List.append_nil, StableHlo.after_append]
  after_reads_simp
  rfl

theorem V_main_v17 (c : Dev nD) : V m c main_v17 = sideBySide (m ((c : Thread nD τ).loc main_arg2)) := by
  unfold V
  simp only [List.flatten_cons, List.flatten_nil, List.append_nil, StableHlo.after_append]
  after_reads_simp
  rfl

theorem V_main_v22 (c : Dev nD) : V m c main_v22 = rowSideBySide (m ((c : Thread nD τ).loc main_arg3)) := by
  unfold V
  simp only [List.flatten_cons, List.flatten_nil, List.append_nil, StableHlo.after_append]
  after_reads_simp
  rfl

theorem V_main_v27 (c : Dev nD) : V m c main_v27 = rowSideBySide (m ((c : Thread nD τ).loc main_arg4)) := by
  unfold V
  simp only [List.flatten_cons, List.flatten_nil, List.append_nil, StableHlo.after_append]
  after_reads_simp
  rfl

theorem V_main_v39 (c : Dev nD) : V m c main_v39 = headColumns (m ((c : Thread nD τ).loc main_arg4)) := by
  unfold V
  simp only [List.flatten_cons, List.flatten_nil, List.append_nil, StableHlo.after_append]
  after_reads_simp
  rfl

theorem V_main_v44 (c : Dev nD) : V m c main_v44 = timeSide (m ((c : Thread nD τ).loc main_arg5)) := by
  unfold V
  simp only [List.flatten_cons, List.flatten_nil, List.append_nil, StableHlo.after_append]
  after_reads_simp
  rfl

theorem V_main_v49 (c : Dev nD) : V m c main_v49 = timeSide (m ((c : Thread nD τ).loc main_arg6)) := by
  unfold V
  simp only [List.flatten_cons, List.flatten_nil, List.append_nil, StableHlo.after_append]
  after_reads_simp
  rfl

theorem V_main_v55 (c : Dev nD) : V m c main_v55 = timeRow (m ((c : Thread nD τ).loc main_arg7)) := by
  unfold V
  simp only [List.flatten_cons, List.flatten_nil, List.append_nil, StableHlo.after_append]
  after_reads_simp
  rfl

theorem V_main_v65 (c : Dev nD) : V m c main_v65 = timeRows (m ((c : Thread nD τ).loc main_arg8)) := by
  unfold V
  simp only [List.flatten_cons, List.flatten_nil, List.append_nil, StableHlo.after_append]
  after_reads_simp
  rfl

theorem V_main_v78 (c : Dev nD) : V m c main_v78 = gatesIn (m ((c : Thread nD τ).loc main_arg11)) := by
  unfold V
  simp only [List.flatten_cons, List.flatten_nil, List.append_nil, StableHlo.after_append]
  after_reads_simp
  rfl

theorem V_main_v85 (c : Dev nD) : V m c main_v85 = gatesHid (m ((c : Thread nD τ).loc main_arg12)) := by
  unfold V
  simp only [List.flatten_cons, List.flatten_nil, List.append_nil, StableHlo.after_append]
  after_reads_simp
  rfl

theorem V_main_v99 (c : Dev nD) : V m c main_v99 = gatesBias (m ((c : Thread nD τ).loc main_arg13)) (m ((c : Thread nD τ).loc main_arg14)) := by
  unfold V
  simp only [List.flatten_cons, List.flatten_nil, List.append_nil, StableHlo.after_append]
  after_reads_simp
  rfl

theorem V_main_v101 (c : Dev nD) : V m c main_v101 = shapeCast S1x150 (extractStridedSlice S150 ![300] (m ((c : Thread nD τ).loc main_arg14)) slices_S450_S150_300) shapeCasts_S150_S1x150 := by
  unfold V
  simp only [List.flatten_cons, List.flatten_nil, List.append_nil, StableHlo.after_append]
  after_reads_simp
  rfl

theorem V_main_v102 (c : Dev nD) : V m c main_v102 = extractStridedSlice S57x57 ![0, 0] (m ((c : Thread nD τ).loc main_arg9)) slices_S114x57_S57x57_0_0 := by
  unfold V
  simp only [List.flatten_cons, List.flatten_nil, List.append_nil, StableHlo.after_append]
  after_reads_simp

theorem V_main_v103 (c : Dev nD) : V m c main_v103 = extractStridedSlice S57x57 ![57, 0] (m ((c : Thread nD τ).loc main_arg9)) slices_S114x57_S57x57_57_0 := by
  unfold V
  simp only [List.flatten_cons, List.flatten_nil, List.append_nil, StableHlo.after_append]
  after_reads_simp

theorem V_main_v104 (c : Dev nD) : V m c main_v104 = shapeCast S1x57 (m ((c : Thread nD τ).loc main_arg10)) shapeCasts_S57_S1x57 := by
  unfold V
  simp only [List.flatten_cons, List.flatten_nil, List.append_nil, StableHlo.after_append]
  after_reads_simp
  rfl

theorem V_main_v105 (c : Dev nD) : V m c main_v105 = shapeCast S1x3 (m ((c : Thread nD τ).loc main_arg16)) shapeCasts_S3_S1x3 := by
  unfold V
  simp only [List.flatten_cons, List.flatten_nil, List.append_nil, StableHlo.after_append]
  after_reads_simp
  rfl

end Cert.Proof.Ker
-- ==== Proof.HostIdx.lean ====
/- The buffers the kernel is launched on, read at an index. -/
module

public import proofs.«01_k».proof.Proof.KernelHost
public import proofs.«01_k».proof.Proof.KernelIdx

@[expose] public section

set_option maxRecDepth 16384

noncomputable section

namespace Cert.Proof.Ker

open Cert.KernelIdeal Cert.KernelIdeal.Gen Cert.KernelIdeal.Value Idealize.ShloMosaic Idealize.ShloMosaic.TcCoe
open Cert.Proof.Math Cert.Proof.Spec Idealize.SL Idealize.SL.Sem

theorem zpad_at : (FloatOps.sitofp FTy.f32 (0#32 : BitVec 32) : Ideal .f32) = 0 := by
  show (((0#32 : BitVec 32).toInt : ℝ) : EReal) = 0
  simp

/-- Lane `d` of head `h`'s 256 lanes. -/
def hlane (h : Fin 2) (d : Fin 256) : Fin 512 := ⟨256 * h.val + d.val, by omega⟩

/-- Lane `d` of gate `g`'s 256 lanes. -/
def glane (g : Fin 3) (d : Fin 150) : Fin 768 := ⟨256 * g.val + d.val, by omega⟩

/-- Lane `d` of head `h`'s 57 lanes. -/
def tlane (h : Fin 2) (d : Fin 57) : Fin 114 := ⟨57 * h.val + d.val, by omega⟩

theorem sideBySide_at (w : FVec Ideal S2x150x150 .f32) (t : Fin 150) (h : Fin 2) (d : Fin 256) :
    sideBySide w (ix2 t (hlane h d)) = if hd : d.val < 150 then w (ix3 h t ⟨d.val, hd⟩) else 0 := by
  have := d.isLt
  unfold hlane
  obtain rfl | rfl : h = 0 ∨ h = 1 := by omega
  all_goals
    pointwise [sideBySide, zpad]
    simp [zpad_at, this]

theorem rowSideBySide_at (a : FVec Ideal S2x150 .f32) (h : Fin 2) (d : Fin 256) :
    rowSideBySide a (ix2 0 (hlane h d)) = if hd : d.val < 150 then a (ix2 h ⟨d.val, hd⟩) else 0 := by
  have := d.isLt
  unfold hlane
  obtain rfl | rfl : h = 0 ∨ h = 1 := by omega
  all_goals
    pointwise [rowSideBySide, padRow0, padRow1, zpad]
    simp [zpad_at, this]

theorem headColumns_at (a : FVec Ideal S2x150 .f32) (h : Fin 2) (d : Fin 256) (g : Fin 2) :
    headColumns a (ix2 (hlane h d) g) = if hd : d.val < 150 then if h = g then a (ix2 h ⟨d.val, hd⟩) else 0 else 0 := by
  have := d.isLt
  unfold hlane
  obtain rfl | rfl : h = 0 ∨ h = 1 := by omega
  all_goals
    obtain rfl | rfl : g = 0 ∨ g = 1 := by omega
    all_goals
      pointwise [headColumns, padRow0, padRow1, zpad]
      simp [zpad_at, this]

theorem timeSide_at (w : FVec Ideal S2x57x57 .f32) (f : Fin 57) (h : Fin 2) (d : Fin 57) :
    timeSide w (ix2 f (tlane h d)) = w (ix3 h f d) := by
  have := d.isLt
  unfold tlane
  obtain rfl | rfl : h = 0 ∨ h = 1 := by omega
  all_goals
    pointwise [timeSide]

theorem timeRow_at (a : FVec Ideal S2x57 .f32) (h : Fin 2) (d : Fin 57) : timeRow a (ix2 0 (tlane h d)) = a (ix2 h d) := by
  have := d.isLt
  unfold tlane
  obtain rfl | rfl : h = 0 ∨ h = 1 := by omega
  all_goals
    pointwise [timeRow, flat0, flat1]

theorem timeRows_at (a : FVec Ideal S2x57 .f32) (g h : Fin 2) (d : Fin 57) :
    timeRows a (ix2 g (tlane h d)) = if h = g then a (ix2 h d) else 0 := by
  have := d.isLt
  unfold tlane
  obtain rfl | rfl : h = 0 ∨ h = 1 := by omega
  all_goals
    obtain rfl | rfl : g = 0 ∨ g = 1 := by omega
    all_goals
      pointwise [timeRows, flat0, flat1]

theorem gatesIn_at (w : FVec Ideal S450x57 .f32) (f : Fin 57) (g : Fin 3) (d : Fin 150) :
    gatesIn w (ix2 f (glane g d)) = w (ix2 ⟨150 * g.val + d.val, by omega⟩ f) := by
  have := d.isLt
  unfold glane
  obtain rfl | rfl | rfl : g = 0 ∨ g = 1 ∨ g = 2 := by omega
  all_goals pointwise [gatesIn, zpad]
  · exact dif_pos (by omega)
  · exact dif_pos (by omega)
  · refine (dif_neg (by omega)).trans ((dif_neg (by omega)).trans ((dif_pos (by omega)).trans ?_))
    refine congrArg (fun n => w (ix2 n f)) (Fin.ext ?_)
    show 300 + (512 + d.val - 256 - 256) = 300 + d.val
    omega

theorem gatesHid_at (w : FVec Ideal S450x150 .f32) (k : Fin 150) (g : Fin 3) (d : Fin 150) :
    gatesHid w (ix2 k (glane g d)) = w (ix2 ⟨150 * g.val + d.val, by omega⟩ k) := by
  have := d.isLt
  unfold glane
  obtain rfl | rfl | rfl : g = 0 ∨ g = 1 ∨ g = 2 := by omega
  all_goals pointwise [gatesHid, zpad]
  · exact dif_pos (by omega)
  · exact dif_pos (by omega)
  · refine (dif_neg (by omega)).trans ((dif_neg (by omega)).trans ((dif_pos (by omega)).trans ?_))
    refine congrArg (fun n => w (ix2 n k)) (Fin.ext ?_)
    show 300 + (512 + d.val - 256 - 256) = 300 + d.val
    omega

theorem padBias_at (v : FVec Ideal S150 .f32) (d : Fin 256) (hd : d.val < 150) : padBias v (ix2 0 d) = v (ix1 ⟨d.val, hd⟩) := by
  pointwise [padBias, zpad]
  simp [hd]

theorem gatesBias_at (u v : FVec Ideal S450 .f32) (g : Fin 3) (d : Fin 150) :
    gatesBias u v (ix2 0 (glane g d)) = if g = 2 then u (ix1 ⟨150 * g.val + d.val, by omega⟩)
      else u (ix1 ⟨150 * g.val + d.val, by omega⟩) + v (ix1 ⟨150 * g.val + d.val, by omega⟩) := by
  have hd := d.isLt
  refine (concatenate_ofFn_apply (t := S1x768) (s₁ := S1x256) (N := 3) (1 : Fin 2) ![_, _, _] concatenates_S1x256_S1x256_S1x256_S1x768_d1
    rfl 256 rfl (ix2 0 (glane g d)) g ?_ (ix2 0 ⟨d.val, by omega⟩) ?_ ?_).trans ?_
  · show (256 * g.val + d.val) / 256 = g.val
    omega
  · show d.val = (256 * g.val + d.val) % 256
    omega
  · intro a ha
    fin_cases a
    · rfl
    · exact absurd rfl ha
  · obtain rfl | rfl | rfl : g = 0 ∨ g = 1 ∨ g = 2 := by omega
    all_goals
      refine (padBias_at _ _ hd).trans ?_
      pointwise []

theorem xcols_at (x : FVec Ideal S16x150x57 .f32) (b : Fin 16) (i : Fin 57) (t : Fin 150) (n : Fin 912) (hn : n.val = 57 * b.val + i.val) :
    shapeCast S912x150 (transpose (α := Ideal .f32) S16x57x150 [0, 2, 1] x transposes_S16x150x57_S16x57x150_0_2_1) shapeCasts_S16x57x150_S912x150 (ix2 n t) = x (ix3 b t i) := by
  rw [show n = ⟨57 * b.val + i.val, by omega⟩ from Fin.ext hn]
  pointwise []

theorem xrows_at (x : FVec Ideal S16x150x57 .f32) (b : Fin 16) (t : Fin 150) (f : Fin 57) :
    shapeCast S2400x57 (transpose (α := Ideal .f32) S150x16x57 [1, 0, 2] x transposes_S16x150x57_S150x16x57_1_0_2) shapeCasts_S150x16x57_S2400x57 (ix2 (row t b) f) = x (ix3 b t f) := by
  unfold row
  pointwise []

theorem lastBias_at (v : FVec Ideal S450 .f32) (d : Fin 150) :
    shapeCast S1x150 (extractStridedSlice S150 ![300] v slices_S450_S150_300) shapeCasts_S150_S1x150 (ix2 0 d)
      = v (ix1 ⟨150 * (2 : Fin 3).val + d.val, by omega⟩) := by
  pointwise []

theorem fuseLow_at (w : FVec Ideal S114x57 .f32) (k f : Fin 57) :
    extractStridedSlice S57x57 ![0, 0] w slices_S114x57_S57x57_0_0 (ix2 k f) = w (ix2 ⟨k.val, by omega⟩ f) := by
  pointwise []

theorem fuseHigh_at (w : FVec Ideal S114x57 .f32) (k f : Fin 57) :
    extractStridedSlice S57x57 ![57, 0] w slices_S114x57_S57x57_57_0 (ix2 k f) = w (ix2 ⟨57 + k.val, by omega⟩ f) := by
  pointwise []

theorem row57_at (c : FVec Ideal S57 .f32) (f : Fin 57) : shapeCast S1x57 c shapeCasts_S57_S1x57 (ix2 0 f) = c (ix1 f) := by
  pointwise []

theorem row3_at (c : FVec Ideal S3 .f32) (o : Fin 3) : shapeCast S1x3 c shapeCasts_S3_S1x3 (ix2 0 o) = c (ix1 o) := by
  pointwise []

end Cert.Proof.Ker
-- ==== Proof.Feature.lean ====
/- The kernel's feature attention is the network's. -/
module

public import proofs.«01_k».proof.Proof.HostIdx

@[expose] public section

set_option maxRecDepth 16384

noncomputable section

namespace Cert.Proof.Ker

open Cert.KernelIdeal Cert.KernelIdeal.Gen Cert.KernelIdeal.Value Idealize.ShloMosaic Idealize.ShloMosaic.TcCoe
open Cert.Proof.Math Cert.Proof.Spec Idealize.SL Idealize.SL.Sem

/-- The window's features as rows. -/
def xcols (x : FVec Ideal S16x150x57 .f32) : FVec Ideal S912x150 .f32 :=
  shapeCast S912x150 (transpose (α := Ideal .f32) S16x57x150 [0, 2, 1] x transposes_S16x150x57_S16x57x150_0_2_1) shapeCasts_S16x57x150_S912x150

/-- The window's steps as rows. -/
def xrows (x : FVec Ideal S16x150x57 .f32) : FVec Ideal S2400x57 .f32 :=
  shapeCast S2400x57 (transpose (α := Ideal .f32) S150x16x57 [1, 0, 2] x transposes_S16x150x57_S150x16x57_1_0_2) shapeCasts_S150x16x57_S2400x57

variable (x : FVec Ideal S16x150x57 .f32) (w w1 w2 : FVec Ideal S2x150x150 .f32) (c a : FVec Ideal S2x150 .f32)

/-- A projected lane: the head's projection, nothing in the padding. -/
theorem proj_at (b : Fin 16) (i : Fin 57) (h : Fin 2) (d : Fin 150) (n : Fin 912) (hn : n.val = 57 * b.val + i.val) :
    (∑ t : Fin 150, xcols x (ix2 n t) * sideBySide w (ix2 t (hlane h ⟨d.val, by omega⟩))) = fL x w b h i d := by
  refine Finset.sum_congr rfl fun t _ => ?_
  rw [sideBySide_at, dif_pos d.isLt, mul_comm]
  exact congrArg (w (ix3 h t d) * ·) (xcols_at x b i t n hn)

theorem pairLane (b : Fin 16) (h : Fin 2) (j i : Fin 57) (d : Fin 150) :
    pairs b (k0_pay8 (xcols x) (sideBySide w1)) (k0_pay9 (xcols x) (sideBySide w2) (rowSideBySide c)) (k0_pay10 (rowSideBySide a))
        (ix3 j i (hlane h ⟨d.val, by omega⟩))
      = max ((fL x w2 b h j d + c (ix2 h d)) + fL x w1 b h i d) 0 * a (ix2 h d) := by
  rw [pairs_at, lj_at, li_at, a_at, rowSideBySide_at, rowSideBySide_at, dif_pos d.isLt, dif_pos d.isLt,
    proj_at x w2 b j h d _ (by show b.val * 57 + j.val = _; omega), proj_at x w1 b i h d _ (by show b.val * 57 + i.val = _; omega)]

theorem pairPad (b : Fin 16) (h : Fin 2) (j i : Fin 57) (l : Fin 256) (hl : 150 ≤ l.val) :
    pairs b (k0_pay8 (xcols x) (sideBySide w1)) (k0_pay9 (xcols x) (sideBySide w2) (rowSideBySide c)) (k0_pay10 (rowSideBySide a))
        (ix3 j i (hlane h l)) = 0 := by
  rw [pairs_at, a_at, rowSideBySide_at a h l, dif_neg (by omega), mul_zero]

/-- One head's linear part: the other head's lanes and the padding weigh nothing. -/
theorem linear_at (b : Fin 16) (h : Fin 2) (j : Fin 57) (n : Fin 912) (hn : n.val = 57 * b.val + j.val) :
    k0_pay7 (F := Ideal) (xcols x) (sideBySide w2) (rowSideBySide c) (headColumns a) (ix2 n h)
      = (∑ d : Fin 150, (fL x w2 b h j d + c (ix2 h d)) * a (ix2 h d)) * al := by
  rw [q_at, sum_heads_512]
  refine congrArg (· * al) ?_
  have hoff : ∀ g : Fin 2, g ≠ h → ∑ d : Fin 256, ((∑ t : Fin 150, xcols x (ix2 n t) * sideBySide w2 (ix2 t (hlane g d)))
      + rowSideBySide c (ix2 0 (hlane g d))) * headColumns a (ix2 (hlane g d) h) = 0 := fun g hg =>
    Finset.sum_eq_zero fun d _ => by
      by_cases hd : d.val < 150
      · rw [headColumns_at, dif_pos hd, if_neg hg, mul_zero]
      · rw [headColumns_at, dif_neg hd, mul_zero]
  refine (Finset.sum_eq_single h (fun g _ hg => hoff g hg) (fun hh => absurd (Finset.mem_univ h) hh)).trans ?_
  refine (sum_pad _ fun l hl => ?_).trans (Finset.sum_congr rfl fun d _ => ?_)
  · show _ * headColumns a (ix2 (hlane h l) h) = 0
    rw [headColumns_at, dif_neg (by omega), mul_zero]
  · show ((∑ t : Fin 150, xcols x (ix2 n t) * sideBySide w2 (ix2 t (hlane h ⟨d.val, by omega⟩)))
      + rowSideBySide c (ix2 0 (hlane h ⟨d.val, by omega⟩))) * headColumns a (ix2 (hlane h ⟨d.val, by omega⟩) h) = _
    rw [proj_at x w2 b j h d n hn, rowSideBySide_at, headColumns_at, dif_pos d.isLt, dif_pos d.isLt, if_pos rfl]

theorem score_at (b : Fin 16) (h : Fin 2) (j i : Fin 57) :
    scores b (k0_pay7 (xcols x) (sideBySide w2) (rowSideBySide c) (headColumns a))
        (pairs b (k0_pay8 (xcols x) (sideBySide w1)) (k0_pay9 (xcols x) (sideBySide w2) (rowSideBySide c)) (k0_pay10 (rowSideBySide a)))
        (ix2 j (tlane h i)) = fPart x w1 w2 c a b h i j := by
  refine (scores_at b _ _ j i h).trans ?_
  rw [linear_at x w2 c a b h j _ rfl]
  refine congrArg (fun u => om * u + _) ?_
  refine (sum_pad _ fun l hl => pairPad x w1 w2 c a b h j i l hl).trans (Finset.sum_congr rfl fun d _ => ?_)
  exact pairLane x w1 w2 c a b h j i d

variable {x w1 w2 c a}
variable (hx : ∀ i, IsReal (x i)) (h1 : ∀ i, IsReal (w1 i)) (h2 : ∀ i, IsReal (w2 i)) (hc : ∀ i, IsReal (c i)) (ha : ∀ i, IsReal (a i))

include hx h1 h2 hc ha

theorem weight_at (b : Fin 16) (h : Fin 2) (j i : Fin 57) :
    weights (scores b (k0_pay7 (xcols x) (sideBySide w2) (rowSideBySide c) (headColumns a))
        (pairs b (k0_pay8 (xcols x) (sideBySide w1)) (k0_pay9 (xcols x) (sideBySide w2) (rowSideBySide c)) (k0_pay10 (rowSideBySide a))))
        (ix2 j (tlane h i)) = smax (fScore x w1 w2 c a b h i) j := by
  rw [weights_at, smax_fScore hx h1 h2 hc ha]
  simp only [score_at]

/-- The kernel's feature attention at a row. -/
theorem feature_at (t : Fin 150) (b : Fin 16) (i : Fin 57) :
    featH (k0_pay7 (xcols x) (sideBySide w2) (rowSideBySide c) (headColumns a)) (k0_pay8 (xcols x) (sideBySide w1))
        (k0_pay9 (xcols x) (sideBySide w2) (rowSideBySide c)) (k0_pay10 (rowSideBySide a)) x (ix2 (row t b) i)
      = fAtt x w1 w2 c a b t i := by
  rw [featH_at, featB_at]
  refine congrArg sgm (Eq.trans ?_ (mean_heads (fun h j => smax (fScore x w1 w2 c a b h i) j) (fun j => x (ix3 b t j)) ?_ ?_))
  · refine Finset.sum_congr rfl fun j _ => ?_
    rw [mul_comm, meanHead_at]
    exact congrArg (fun u => ((1 / 2 : ℝ) : EReal) * u * x (ix3 b t j))
      (congrArg₂ (· + ·) (weight_at hx h1 h2 hc ha b 0 j i) (weight_at hx h1 h2 hc ha b 1 j i))
  · intro h j
    exact smax_isReal _ (fun k => IsReal.ne_top (fScore_real hx h1 h2 hc ha b h i k)) j
      (IsReal.ne_bot (fScore_real hx h1 h2 hc ha b h i j)) j
  · exact fun j => hx _

end Cert.Proof.Ker
-- ==== Proof.Time.lean ====
/- The kernel's banded time attention is the network's. -/
module

public import proofs.«01_k».proof.Proof.KernelTime
public import proofs.«01_k».proof.Proof.Feature

@[expose] public section

set_option maxRecDepth 16384

noncomputable section

namespace Cert.Proof.Ker

open Cert.KernelIdeal Cert.KernelIdeal.Gen Cert.KernelIdeal.Value Idealize.ShloMosaic Idealize.ShloMosaic.TcCoe
open Cert.Proof.Math Cert.Proof.Spec Idealize.SL Idealize.SL.Sem

theorem rows_self (v : FVec Ideal S2400x57 .f32) (n : Fin 2400) (f : Fin 57) : k0_pay5 v (ix2 n f) = v (ix2 n f) := by
  pointwise [k0_pay5]

variable (x : FVec Ideal S16x150x57 .f32) (w w1 w2 : FVec Ideal S2x57x57 .f32) (c a : FVec Ideal S2x57 .f32)

theorem tproj_at (t : Fin 150) (b : Fin 16) (h : Fin 2) (d : Fin 57) :
    (∑ f : Fin 57, xrows x (ix2 (row t b) f) * timeSide w (ix2 f (tlane h d))) = tL x w b h t d := by
  refine Finset.sum_congr rfl fun f _ => ?_
  rw [timeSide_at, mul_comm]
  exact congrArg (w (ix3 h f d) * ·) (xrows_at x b t f)

/-- A column of scores: head `h`'s score of the step landed on, minus infinity where there is none. -/
theorem column_at (v : FVec Ideal S1x114 .f32) (g : Fin 2) (hv : ∀ l, v (ix2 0 l) = timeRows a (ix2 g l)) (k : Fin 21) (t : Fin 150) (b : Fin 16) :
    colT v k0_pay57 (k0_pay53 (F := Ideal) (k0_pay5 (xrows x)) (timeSide w1))
        (k0_pay54 (F := Ideal) (k0_pay5 (xrows x)) (timeSide w2) (timeRow c)) k (ix2 (row t b) 0)
      = if h : hop t k then tRaw x w1 w2 c a b g t (land t k h) else ⊥ := by
  rw [colT_at]
  by_cases h : hop t k
  · rw [dif_pos h, dif_pos h, sum_heads_114]
    refine (Finset.sum_eq_single g (fun e _ he => Finset.sum_eq_zero fun d _ => ?_) (fun hh => absurd (Finset.mem_univ g) hh)).trans
      (Finset.sum_congr rfl fun d _ => ?_)
    · show _ * v (ix2 0 (tlane e d)) = 0
      rw [hv, timeRows_at, if_neg he, mul_zero]
    · show lky (k0_pay53 (F := Ideal) (k0_pay5 (xrows x)) (timeSide w1) (ix2 (row t b) (tlane g d))
        + k0_pay54 (F := Ideal) (k0_pay5 (xrows x)) (timeSide w2) (timeRow c) (ix2 (row (land t k h) b) (tlane g d)))
        * v (ix2 0 (tlane g d)) = _
      rw [hv, timeRows_at, if_pos rfl, ti_at, tj_at, tproj_at, tproj_at, timeRow_at, mul_comm, add_assoc]
  · rw [dif_neg h, dif_neg h]

theorem near_land (t : Fin 150) (k : Fin 21) (h : hop t k) : near t (land t k h) := by
  have := h.1
  constructor
  · show t.val ≤ t.val + k.val - 10 + 10
    omega
  · show t.val + k.val - 10 ≤ t.val + 10
    omega

variable {x w1 w2 c a}
variable (hx : ∀ i, IsReal (x i)) (h1 : ∀ i, IsReal (w1 i)) (h2 : ∀ i, IsReal (w2 i)) (hc : ∀ i, IsReal (c i)) (ha : ∀ i, IsReal (a i))

include hx h1 h2 hc ha

/-- One head's weight of the step landed on. -/
theorem tweight_at (v : FVec Ideal S1x114 .f32) (g : Fin 2) (hv : ∀ l, v (ix2 0 l) = timeRows a (ix2 g l)) (k : Fin 21) (t : Fin 150)
    (b : Fin 16) (h : hop t k) :
    weightsT (cols (colT v k0_pay57 (k0_pay53 (F := Ideal) (k0_pay5 (xrows x)) (timeSide w1))
        (k0_pay54 (F := Ideal) (k0_pay5 (xrows x)) (timeSide w2) (timeRow c)))) (ix2 (row t b) k)
      = smax (tScore x w1 w2 c a b g t) (land t k h) := by
  rw [weightsT_at, smax_eq _ (tScore_ne_top hx h1 h2 hc ha b g t) t (tScore_self_ne_bot hx h1 h2 hc ha b g t)]
  simp only [cols_at, column_at x w1 w2 c a v g hv]
  refine congrArg₂ Ideal.div ?_ ?_
  · rw [dif_pos h, tScore, if_pos (near_land t k h)]
  · have hs : ∀ s : Fin 150, Ideal.exp (tScore x w1 w2 c a b g t s) = if near t s then Ideal.exp (tRaw x w1 w2 c a b g t s) else 0 := fun s => by
      unfold tScore
      by_cases hn : near t s
      · rw [if_pos hn, if_pos hn]
      · rw [if_neg hn, if_neg hn, Ideal.exp_bot]
    have hk : ∀ k : Fin 21, Ideal.exp (if h : hop t k then tRaw x w1 w2 c a b g t (land t k h) else ⊥)
        = if h : hop t k then Ideal.exp (tRaw x w1 w2 c a b g t (land t k h)) else 0 := fun k => by
      by_cases hn : hop t k
      · rw [dif_pos hn, dif_pos hn]
      · rw [dif_neg hn, dif_neg hn, Ideal.exp_bot]
    simp only [hs, hk]
    exact sum_band t fun s => Ideal.exp (tRaw x w1 w2 c a b g t s)

/-- The kernel's time attention at a row. -/
theorem time_at (v0 v1 : FVec Ideal S1x114 .f32) (hv0 : ∀ l, v0 (ix2 0 l) = timeRows a (ix2 0 l))
    (hv1 : ∀ l, v1 (ix2 0 l) = timeRows a (ix2 1 l)) (t : Fin 150) (b : Fin 16) (f : Fin 57) :
    timeH v0 v1 (k0_pay53 (F := Ideal) (k0_pay5 (xrows x)) (timeSide w1))
        (k0_pay54 (F := Ideal) (k0_pay5 (xrows x)) (timeSide w2) (timeRow c)) (k0_pay5 (xrows x)) (ix2 (row t b) f)
      = tAtt x w1 w2 c a b t f := by
  rw [timeH_at]
  refine congrArg sgm (Eq.trans ?_ (mean_heads (fun h s => smax (tScore x w1 w2 c a b h t) s) (fun s => x (ix3 b s f)) ?_ ?_))
  · let G : Fin 150 → EReal := fun s => ((1 / 2 : ℝ) : EReal) * (smax (tScore x w1 w2 c a b 0 t) s + smax (tScore x w1 w2 c a b 1 t) s)
      * x (ix3 b s f)
    have hz : ∀ g s, ¬ near t s → smax (tScore x w1 w2 c a b g t) s = 0 := fun g s hn =>
      smax_bot _ (tScore_ne_top hx h1 h2 hc ha b g t) t (tScore_self_ne_bot hx h1 h2 hc ha b g t) s (if_neg hn)
    refine Eq.trans (Finset.sum_congr rfl fun k _ => ?_) ((sum_band t G).trans (Finset.sum_congr rfl fun s _ => ?_))
    · by_cases h : hop t k
      · rw [dif_pos h, dif_pos h, meanT_at, tweight_at hx h1 h2 hc ha v0 0 hv0 k t b h, tweight_at hx h1 h2 hc ha v1 1 hv1 k t b h]
        exact congrArg (_ * ·) ((rows_self _ _ _).trans (xrows_at x b (land t k h) f))
      · rw [dif_neg h, dif_neg h, mul_zero]
    · by_cases hn : near t s
      · rw [if_pos hn]
      · rw [if_neg hn, hz 0 s hn, hz 1 s hn, add_zero, mul_zero, zero_mul]
  · intro h s
    exact smax_isReal _ (tScore_ne_top hx h1 h2 hc ha b h t) t (tScore_self_ne_bot hx h1 h2 hc ha b h t) s
  · exact fun s => hx _

end Cert.Proof.Ker
-- ==== Proof.Loop.lean ====
/- The kernel's gates, loop and head are the network's. -/
module

public import proofs.«01_k».proof.Proof.Time

@[expose] public section

set_option maxRecDepth 16384

noncomputable section

namespace Cert.Proof.Ker

open Cert.KernelIdeal Cert.KernelIdeal.Gen Cert.KernelIdeal.Value Idealize.ShloMosaic Idealize.ShloMosaic.TcCoe
open Cert.Proof.Math Cert.Proof.Spec Idealize.SL Idealize.SL.Sem

theorem glane0 (d : Fin 150) : (⟨d.val, by omega⟩ : Fin 768) = glane 0 d :=
  Fin.ext (by show d.val = 256 * 0 + d.val; omega)

theorem glane1 (d : Fin 150) : (⟨256 + d.val, by omega⟩ : Fin 768) = glane 1 d :=
  Fin.ext (by show 256 + d.val = 256 * 1 + d.val; omega)

theorem glane2 (d : Fin 150) : (⟨512 + d.val, by omega⟩ : Fin 768) = glane 2 d :=
  Fin.ext (by show 512 + d.val = 256 * 2 + d.val; omega)

/-- The last gate's hidden bias as a row. -/
def lastBias (v : FVec Ideal S450 .f32) : FVec Ideal S1x150 .f32 :=
  shapeCast S1x150 (extractStridedSlice S150 ![300] v slices_S450_S150_300) shapeCasts_S150_S1x150

variable (wi : FVec Ideal S450x57 .f32) (wh : FVec Ideal S450x150 .f32) (ci ch : FVec Ideal S450 .f32)
variable (u : Fin 16 → Fin 150 → Fin 57 → EReal)

/-- A gate row: the fused step through the gate's weights, plus the bias the launch prepared. -/
def GateRows (G : FVec Ideal S2400x768 .f32) : Prop :=
  ∀ (t : Fin 150) (b : Fin 16) (g : Fin 3) (d : Fin 150), G (ix2 (row t b) (glane g d))
    = (∑ f : Fin 57, u b t f * wi (ix2 ⟨150 * g.val + d.val, by omega⟩ f)) + gatesBias ci ch (ix2 0 (glane g d))

/-- The first two gates carry both biases on the input side. -/
theorem bothBiases {G : FVec Ideal S2400x768 .f32} (hG : GateRows wi ci ch u G) (t : Fin 150) (b : Fin 16) (g : Fin 3) (hg : g ≠ 2)
    (d : Fin 150) (p : Fin 150 → EReal) :
    G (ix2 (row t b) (glane g d)) + ∑ k : Fin 150, p k * gatesHid wh (ix2 k (glane g d))
      = gin (u b t) wi ci g d + ghid p wh ch g d := by
  rw [hG, gatesBias_at, if_neg hg]
  simp only [gatesHid_at]
  unfold gin ghid
  abel

theorem step_at {G : FVec Ideal S2400x768 .f32} (hG : GateRows wi ci ch u G) (t : Fin 150) (b : Fin 16) (s : FVec Ideal S16x150 .f32)
    (d : Fin 150) :
    k0_pay2 (k0_pay165 (gatesHid wh)) (lastBias ch) s (extractStridedSlice S16x768 ![16 * t.val, 0] G (rowG t)) (ix2 b d)
      = gru wi wh ci ch (u b t) (fun k => s (ix2 b k)) d := by
  rw [stepK_at]
  simp only [rows_at, glane0, glane1, glane2]
  rw [bothBiases wi wh ci ch u hG t b 0 (by decide) d fun k => s (ix2 b k),
    bothBiases wi wh ci ch u hG t b 1 (by decide) d fun k => s (ix2 b k)]
  have h2 : G (ix2 (row t b) (glane 2 d)) = gin (u b t) wi ci 2 d := by
    rw [hG, gatesBias_at, if_pos rfl]
    rfl
  have h3 : (∑ k : Fin 150, s (ix2 b k) * gatesHid wh (ix2 k (glane 2 d))) + lastBias ch (ix2 0 d) = ghid (fun k => s (ix2 b k)) wh ch 2 d := by
    simp only [gatesHid_at]
    exact congrArg (_ + ·) (lastBias_at ch d)
  rw [h2, h3]
  rfl

theorem state_at {G : FVec Ideal S2400x768 .f32} (hG : GateRows wi ci ch u G) (b : Fin 16) (n : Nat) (hn : n ≤ 150) (d : Fin 150) :
    state G (gatesHid wh) (lastBias ch) n (ix2 b d) = hid wi wh ci ch u b n d := by
  induction n generalizing d with
  | zero => exact start_at b d
  | succ n ih =>
    rw [state_succ _ _ _ n (by omega), hid_succ wi wh ci ch u b n (by omega)]
    refine (step_at wi wh ci ch u hG ⟨n, by omega⟩ b _ d).trans ?_
    exact congrArg (fun p => gru wi wh ci ch (u b ⟨n, by omega⟩) p d) (funext fun k => ih (by omega) k)

/-- The kernel's result from its gate rows. -/
theorem head_at {G : FVec Ideal S2400x768 .f32} (hG : GateRows wi ci ch u G) (w : FVec Ideal S150x3 .f32) (v : FVec Ideal S3 .f32)
    (b : Fin 16) (o : Fin 3) :
    k0_pay3 (state G (gatesHid wh) (lastBias ch) 150) w (shapeCast S1x3 v shapeCasts_S3_S1x3) (ix2 b o)
      = head (fun b => hid wi wh ci ch u b 150) w v b o := by
  rw [headK_at]
  simp only [state_at wi wh ci ch u hG b 150 le_rfl]
  exact congrArg (_ + ·) (row3_at v o)

variable {x : FVec Ideal S16x150x57 .f32} {w1 w2 : FVec Ideal S2x150x150 .f32} {c a : FVec Ideal S2x150 .f32}
variable {v1 v2 : FVec Ideal S2x57x57 .f32} {e r : FVec Ideal S2x57 .f32}
variable (hx : ∀ i, IsReal (x i)) (h1 : ∀ i, IsReal (w1 i)) (h2 : ∀ i, IsReal (w2 i)) (hc : ∀ i, IsReal (c i)) (ha : ∀ i, IsReal (a i))
variable (k1 : ∀ i, IsReal (v1 i)) (k2 : ∀ i, IsReal (v2 i)) (he : ∀ i, IsReal (e i)) (hr : ∀ i, IsReal (r i))
variable (wf : FVec Ideal S114x57 .f32) (cf : FVec Ideal S57 .f32)

include hx h1 h2 hc ha k1 k2 he hr in
/-- The gate rows the kernel computes are those of the fused attentions. -/
theorem gates_at : GateRows wi ci ch (fused (fAtt x w1 w2 c a) (tAtt x v1 v2 e r) wf cf)
    (gates (xcols x) (xrows x) x (sideBySide w1) (sideBySide w2) (rowSideBySide c) (rowSideBySide a) (headColumns a)
      (timeSide v1) (timeSide v2) (timeRow e) (timeRows r)
      (extractStridedSlice S57x57 ![0, 0] wf slices_S114x57_S57x57_0_0) (extractStridedSlice S57x57 ![57, 0] wf slices_S114x57_S57x57_57_0)
      (shapeCast S1x57 cf shapeCasts_S57_S1x57) (gatesIn wi) (gatesBias ci ch)) := by
  intro t b g d
  refine (gate_at _ _ _ _ _ _).trans (congrArg (· + gatesBias ci ch (ix2 0 (glane g d))) (Finset.sum_congr rfl fun f _ => ?_))
  rw [gatesIn_at, row57_at, fusedH_at]
  refine congrArg (fun q => (q + cf (ix1 f)) * wi (ix2 ⟨150 * g.val + d.val, by omega⟩ f)) (congrArg₂ (· + ·) ?_ ?_)
  · refine Finset.sum_congr rfl fun k _ => ?_
    rw [feature_at hx h1 h2 hc ha, fuseLow_at]
  · refine Finset.sum_congr rfl fun k _ => ?_
    rw [time_at hx k1 k2 he hr _ _ (row0_at _) (row1_at _), fuseHigh_at]

end Cert.Proof.Ker
-- ==== Proof.Pre.lean ====
/- The precondition read: every entry of the nine arrays the scores are made of is a real. -/
module

public import proofs.«01_k».proof.Defs
public import proofs.«01_k».proof.Proof.Gen.Pre_scores_finite
public import proofs.«01_k».proof.Proof.Spec
public import Idealize.ShloMosaic.Lib.ReduceAll

@[expose] public section

set_option maxRecDepth 16384

noncomputable section

namespace Cert.Proof.Pre

open Cert.Pre_scores_finite Cert.Pre_scores_finite.Gen Idealize.ShloMosaic
open Cert.Proof.Math Cert.Proof.Spec

theorem ofBits_inf : Ideal.ofBits .f32 0x7F800000#32 = ⊤ := by
  simp [Ideal.ofBits, Ideal.ieee]

/-- Two bits whose conjunction is one are both one. -/
theorem both {p q : IVec S_ 1} (h : andi p q = fun _ => 1#1) : p = (fun _ => 1#1) ∧ q = fun _ => 1#1 := by
  have hw : ∀ a b : BitVec 1, IntOp.andi a b = 1#1 → a = 1#1 ∧ b = 1#1 := by decide
  exact ⟨funext fun i => (hw _ _ (congrFun h i)).1, funext fun i => (hw _ _ (congrFun h i)).2⟩

/-- An array whose magnitudes are all below plus infinity holds reals. -/
theorem reals {s : Shape} {axes : List (Fin s.rank)} (x : FVec Ideal s .f32) (hb : S_.BroadcastsInDim s (![] : Fin 0 → Fin s.rank))
    (hr : s.ReducesTo axes S_) (h0 : 0 < S_.numel)
    (h : Host.reduce IntOp.andi (cmpf .olt (Host.absf x) (broadcastInDim s ![] hb (constant (F := Ideal) S_ .f32 0x7F800000#32)))
      (constantI S_ 1 1#1) hr h0 = fun _ => 1#1) (i : s.Idx) : IsReal (x i) := by
  haveI : Subsingleton S_.Idx := ⟨fun a b => funext fun d => d.elim0⟩
  have hi := Host.reduce_andi_all _ _ hr h0 (Shape.Idx.first h0) (congrFun h _) i
  refine isReal_of_abs_lt ?_
  rw [← ofBits_inf]
  have hc : BitVec.ofBool (decide (max (x i) (-x i) < Ideal.ofBits .f32 0x7F800000#32)) = 1#1 := hi
  by_contra hn
  rw [decide_eq_false hn] at hc
  exact absurd hc (by decide)

/-- The nine arrays hold reals. -/
theorem finite {a0 : FVec Ideal S16x150x57 .f32} {a1 a2 : FVec Ideal S2x150x150 .f32} {a3 a4 : FVec Ideal S2x150 .f32}
    {a5 a6 : FVec Ideal S2x57x57 .f32} {a7 a8 : FVec Ideal S2x57 .f32} {a9 : FVec Ideal S114x57 .f32} {a10 : FVec Ideal S57 .f32}
    {a11 : FVec Ideal S450x57 .f32} {a12 : FVec Ideal S450x150 .f32} {a13 a14 : FVec Ideal S450 .f32} {a15 : FVec Ideal S150x3 .f32}
    {a16 : FVec Ideal S3 .f32}
    (h : Cert.Pre_scores_finite.fn (F := Ideal) a0 a1 a2 a3 a4 a5 a6 a7 a8 a9 a10 a11 a12 a13 a14 a15 a16 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  dsimp only [fn, fn_part1, fn_part2] at h
  obtain ⟨h8, h⟩ := both h
  obtain ⟨h7, h⟩ := both h
  obtain ⟨h6, h⟩ := both h
  obtain ⟨h5, h⟩ := both h
  obtain ⟨h4, h⟩ := both h
  obtain ⟨h3, h⟩ := both h
  obtain ⟨h2, h⟩ := both h
  obtain ⟨h1, h⟩ := both h
  obtain ⟨h0, -⟩ := both h
  exact ⟨reals _ _ _ _ h0, reals _ _ _ _ h1, reals _ _ _ _ h2, reals _ _ _ _ h3, reals _ _ _ _ h4, reals _ _ _ _ h5,
    reals _ _ _ _ h6, reals _ _ _ _ h7, reals _ _ _ _ h8⟩

end Cert.Proof.Pre
-- ==== Proof.RefRun.lean ====
/- What the reference computes before its loop and in one trip of it, as composed terms of the arguments. -/
module

public import proofs.«01_k».proof.Proof.Gen.ReferenceIdeal.Run
public import Idealize.ShloMosaic.PureOps.Ideal

@[expose] public section

set_option maxRecDepth 16384

noncomputable section

namespace Cert.Proof.Ref

open Cert.ReferenceIdeal Cert.ReferenceIdeal.Gen Cert.ReferenceIdeal.Value Idealize.ShloMosaic Idealize.ShloMosaic.TcCoe
open Idealize.SL Idealize.SL.Sem Idealize.ShloMosaic.StableHlo

/-- The feature attention's pre-activation: row projection plus column projection plus bias. -/
def featPre (x : FVec Ideal S16x150x57 .f32) (w1 w2 : FVec Ideal S2x150x150 .f32) (b : FVec Ideal S2x150 .f32) :
    FVec Ideal S16x2x57x57x150 .f32 :=
  addf (addf
    (broadcastInDim S16x2x57x57x150 ![0, 1, 2, 3, 4] bcast_S16x2x57x1x150_S16x2x57x57x150_0_1_2_3_4
      (broadcastInDim S16x2x57x1x150 ![0, 1, 2, 4] bcast_S16x2x57x150_S16x2x57x1x150_0_1_2_4
        (transpose S16x2x57x150 [2, 0, 3, 1]
          (Host.dotGeneral dot_S2x150x150_S16x57x150_S2x150x16x57_1_2_02_01_n_n none w1
            (transpose S16x57x150 [0, 2, 1] x transposes_S16x150x57_S16x57x150_0_2_1))
          transposes_S2x150x16x57_S16x2x57x150_2_0_3_1)))
    (broadcastInDim S16x2x57x57x150 ![0, 1, 2, 3, 4] bcast_S16x2x1x57x150_S16x2x57x57x150_0_1_2_3_4
      (broadcastInDim S16x2x1x57x150 ![0, 1, 3, 4] bcast_S16x2x57x150_S16x2x1x57x150_0_1_3_4
        (transpose S16x2x57x150 [2, 0, 3, 1]
          (Host.dotGeneral dot_S2x150x150_S16x57x150_S2x150x16x57_1_2_02_01_n_n none w2
            (transpose S16x57x150 [0, 2, 1] x transposes_S16x150x57_S16x57x150_0_2_1))
          transposes_S2x150x16x57_S16x2x57x150_2_0_3_1))))
    (broadcastInDim S16x2x57x57x150 ![0, 1, 2, 3, 4] bcast_S1x2x1x1x150_S16x2x57x57x150_0_1_2_3_4
      (broadcastInDim S1x2x1x1x150 ![1, 4] bcast_S2x150_S1x2x1x1x150_1_4 b))

/-- The leaky slope on the feature pre-activation. -/
def featLky (u : FVec Ideal S16x2x57x57x150 .f32) : FVec Ideal S16x2x57x57x150 .f32 :=
  select (cmpf .oge u (broadcastInDim S16x2x57x57x150 ![] bcast_S_S16x2x57x57x150 (constant S_ .f32 0x00000000#32))) u
    (mulf (broadcastInDim S16x2x57x57x150 ![] bcast_S_S16x2x57x57x150 (constant S_ .f32 0x3E4CCCCD#32)) u)

/-- The feature attention's scores. -/
def featE (a : FVec Ideal S2x150 .f32) (l : FVec Ideal S16x2x57x57x150 .f32) : FVec Ideal S16x2x57x57 .f32 :=
  transpose S16x2x57x57 [1, 0, 2, 3]
    (Host.dotGeneral dot_S2x150_S16x2x57x57x150_S2x16x57x57_1_4_n_023_0_1 none a l)
    transposes_S2x16x57x57_S16x2x57x57_1_0_2_3

/-- The exponentials of the feature scores less their row's greatest. -/
def featP (e : FVec Ideal S16x2x57x57 .f32) : FVec Ideal S16x2x57x57 .f32 :=
  Host.exp (subf e (broadcastInDim S16x2x57x57 ![0, 1, 2, 3] bcast_S16x2x57x1_S16x2x57x57_0_1_2_3
    (broadcastInDim S16x2x57x1 ![0, 1, 2] bcast_S16x2x57_S16x2x57x1_0_1_2
      (maximumf (broadcastInDim S16x2x57 ![] bcast_S_S16x2x57 (constant S_ .f32 0xFF800000#32))
        (Host.reduce FloatOps.maximumf e (constant S_ .f32 0xFF800000#32) reducesTo_S16x2x57x57_S16x2x57_d3 h_S_)))))

/-- The feature attention's weights. -/
def featAtt (p : FVec Ideal S16x2x57x57 .f32) : FVec Ideal S16x2x57x57 .f32 :=
  Host.divf p (broadcastInDim S16x2x57x57 ![0, 1, 2, 3] bcast_S16x2x57x1_S16x2x57x57_0_1_2_3
    (broadcastInDim S16x2x57x1 ![0, 1, 2] bcast_S16x2x57_S16x2x57x1_0_1_2
      (Host.reduceAdd p (constant S_ .f32 0x00000000#32) reducesTo_S16x2x57x57_S16x2x57_d3 h_S_)))

/-- The feature attention's result from the transposed input: the mean over heads of the weighted sums, through the sigmoid. -/
def featOut0 (xt : FVec Ideal S16x57x150 .f32) (p : FVec Ideal S16x2x57x57 .f32) : FVec Ideal S16x150x57 .f32 :=
  transpose S16x150x57 [0, 2, 1]
    (Host.divf (broadcastInDim S16x57x150 ![] bcast_S_S16x57x150 (constant S_ .f32 0x3F800000#32))
      (addf (broadcastInDim S16x57x150 ![] bcast_S_S16x57x150 (constant S_ .f32 0x3F800000#32))
        (Host.exp (Host.negf (Host.divf
          (Host.reduceAdd
            (Host.dotGeneral dot_S16x2x57x57_S16x57x150_S16x2x57x150_3_1_12_2_0_0 none p xt)
            (constant S_ .f32 0x00000000#32) reducesTo_S16x2x57x150_S16x57x150_d1 h_S_)
          (broadcastInDim S16x57x150 ![] bcast_S_S16x57x150 (constant S_ .f32 0x40000000#32)))))))
    transposes_S16x57x150_S16x150x57_0_2_1

/-- The feature attention's result. -/
def featOut (x : FVec Ideal S16x150x57 .f32) (p : FVec Ideal S16x2x57x57 .f32) : FVec Ideal S16x150x57 .f32 :=
  featOut0 (transpose S16x57x150 [0, 2, 1] x transposes_S16x150x57_S16x57x150_0_2_1) p

/-- The time attention's pre-activation. -/
def timePre (x : FVec Ideal S16x150x57 .f32) (w1 w2 : FVec Ideal S2x57x57 .f32) (b : FVec Ideal S2x57 .f32) :
    FVec Ideal S16x2x150x150x57 .f32 :=
  addf (addf
    (broadcastInDim S16x2x150x150x57 ![0, 1, 2, 3, 4] bcast_S16x2x150x1x57_S16x2x150x150x57_0_1_2_3_4
      (broadcastInDim S16x2x150x1x57 ![0, 1, 2, 4] bcast_S16x2x150x57_S16x2x150x1x57_0_1_2_4
        (transpose S16x2x150x57 [2, 0, 3, 1]
          (Host.dotGeneral dot_S2x57x57_S16x150x57_S2x57x16x150_1_2_02_01_n_n none w1 x)
          transposes_S2x57x16x150_S16x2x150x57_2_0_3_1)))
    (broadcastInDim S16x2x150x150x57 ![0, 1, 2, 3, 4] bcast_S16x2x1x150x57_S16x2x150x150x57_0_1_2_3_4
      (broadcastInDim S16x2x1x150x57 ![0, 1, 3, 4] bcast_S16x2x150x57_S16x2x1x150x57_0_1_3_4
        (transpose S16x2x150x57 [2, 0, 3, 1]
          (Host.dotGeneral dot_S2x57x57_S16x150x57_S2x57x16x150_1_2_02_01_n_n none w2 x)
          transposes_S2x57x16x150_S16x2x150x57_2_0_3_1))))
    (broadcastInDim S16x2x150x150x57 ![0, 1, 2, 3, 4] bcast_S1x2x1x1x57_S16x2x150x150x57_0_1_2_3_4
      (broadcastInDim S1x2x1x1x57 ![1, 4] bcast_S2x57_S1x2x1x1x57_1_4 b))

/-- The leaky slope on the time pre-activation. -/
def timeLky (u : FVec Ideal S16x2x150x150x57 .f32) : FVec Ideal S16x2x150x150x57 .f32 :=
  select (cmpf .oge u (broadcastInDim S16x2x150x150x57 ![] bcast_S_S16x2x150x150x57 (constant S_ .f32 0x00000000#32))) u
    (mulf (broadcastInDim S16x2x150x150x57 ![] bcast_S_S16x2x150x150x57 (constant S_ .f32 0x3E4CCCCD#32)) u)

/-- The time band: two steps at most ten apart. -/
def band : Vec Ideal S150x150 .i1 :=
  cmpi .sle
    (absi (subi
      (broadcastInDim S150x150 ![0, 1] bcast_S150x1_S150x150_0_1
        (broadcastInDim S150x1 ![0] bcast_S150_S150x1_0 (iotaInDim S150 32 0)))
      (broadcastInDim S150x150 ![0, 1] bcast_S1x150_S150x150_0_1
        (broadcastInDim S1x150 ![1] bcast_S150_S1x150_1 (iotaInDim S150 32 0)))))
    (broadcastInDim S150x150 ![] bcast_S_S150x150 (constantI S_ 32 10#32))

/-- The time attention's scores, minus infinity outside the band. -/
def timeE (a : FVec Ideal S2x57 .f32) (l : FVec Ideal S16x2x150x150x57 .f32) : FVec Ideal S16x2x150x150 .f32 :=
  select
    (broadcastInDim S16x2x150x150 ![0, 1, 2, 3] bcast_S1x1x150x150_S16x2x150x150_0_1_2_3
      (broadcastInDim S1x1x150x150 ![2, 3] bcast_S150x150_S1x1x150x150_2_3 band))
    (transpose S16x2x150x150 [1, 0, 2, 3]
      (Host.dotGeneral dot_S2x57_S16x2x150x150x57_S2x16x150x150_1_4_n_023_0_1 none a l)
      transposes_S2x16x150x150_S16x2x150x150_1_0_2_3)
    (broadcastInDim S16x2x150x150 ![] bcast_S_S16x2x150x150 (constant S_ .f32 0xFF800000#32))

/-- The exponentials of the time scores less their row's greatest. -/
def timeP (e : FVec Ideal S16x2x150x150 .f32) : FVec Ideal S16x2x150x150 .f32 :=
  Host.exp (subf e (broadcastInDim S16x2x150x150 ![0, 1, 2, 3] bcast_S16x2x150x1_S16x2x150x150_0_1_2_3
    (broadcastInDim S16x2x150x1 ![0, 1, 2] bcast_S16x2x150_S16x2x150x1_0_1_2
      (maximumf (broadcastInDim S16x2x150 ![] bcast_S_S16x2x150 (constant S_ .f32 0xFF800000#32))
        (Host.reduce FloatOps.maximumf e (constant S_ .f32 0xFF800000#32) reducesTo_S16x2x150x150_S16x2x150_d3 h_S_)))))

/-- The time attention's weights. -/
def timeAtt (p : FVec Ideal S16x2x150x150 .f32) : FVec Ideal S16x2x150x150 .f32 :=
  Host.divf p (broadcastInDim S16x2x150x150 ![0, 1, 2, 3] bcast_S16x2x150x1_S16x2x150x150_0_1_2_3
    (broadcastInDim S16x2x150x1 ![0, 1, 2] bcast_S16x2x150_S16x2x150x1_0_1_2
      (Host.reduceAdd p (constant S_ .f32 0x00000000#32) reducesTo_S16x2x150x150_S16x2x150_d3 h_S_)))

/-- The time attention's result. -/
def timeOut (x : FVec Ideal S16x150x57 .f32) (p : FVec Ideal S16x2x150x150 .f32) : FVec Ideal S16x150x57 .f32 :=
  Host.divf (broadcastInDim S16x150x57 ![] bcast_S_S16x150x57 (constant S_ .f32 0x3F800000#32))
    (addf (broadcastInDim S16x150x57 ![] bcast_S_S16x150x57 (constant S_ .f32 0x3F800000#32))
      (Host.exp (Host.negf (Host.divf
        (Host.reduceAdd
          (Host.dotGeneral dot_S16x2x150x150_S16x150x57_S16x2x150x57_3_1_12_2_0_0 none p x)
          (constant S_ .f32 0x00000000#32) reducesTo_S16x2x150x57_S16x150x57_d1 h_S_)
        (broadcastInDim S16x150x57 ![] bcast_S_S16x150x57 (constant S_ .f32 0x40000000#32))))))

/-- The two attentions' results through the fusing layer, time first. -/
def fuse (hf ht : FVec Ideal S16x150x57 .f32) (w : FVec Ideal S114x57 .f32) (b : FVec Ideal S57 .f32) :
    FVec Ideal S150x16x57 .f32 :=
  transpose S150x16x57 [1, 0, 2]
    (addf
      (Host.dotGeneral dot_S16x150x114_S114x57_S16x150x57_2_0_01_1_n_n none
        (concatenate S16x150x114 2 [⟨S16x150x57, hf⟩, ⟨S16x150x57, ht⟩] concatenates_S16x150x57_S16x150x57_S16x150x114_d2) w)
      (broadcastInDim S16x150x57 ![0, 1, 2] bcast_S1x1x57_S16x150x57_0_1_2
        (broadcastInDim S1x1x57 ![2] bcast_S57_S1x1x57_2 b)))
    transposes_S16x150x57_S150x16x57_1_0_2

/-- The feature attention of the arguments. -/
def hf (x : FVec Ideal S16x150x57 .f32) (w1 w2 : FVec Ideal S2x150x150 .f32) (b a : FVec Ideal S2x150 .f32) :
    FVec Ideal S16x150x57 .f32 := featOut x (featAtt (featP (featE a (featLky (featPre x w1 w2 b)))))

/-- The time attention of the arguments. -/
def ht (x : FVec Ideal S16x150x57 .f32) (w1 w2 : FVec Ideal S2x57x57 .f32) (b a : FVec Ideal S2x57 .f32) :
    FVec Ideal S16x150x57 .f32 := timeOut x (timeAtt (timeP (timeE a (timeLky (timePre x w1 w2 b)))))

variable (m : (ℓ : Loc nD τ sig) → Buf (Elt Ideal) ℓ)

/-! What each stretch before the loop leaves in the buffers a later stretch reads. -/

theorem s0_v12 (V : Valuation τ sig (Elt Ideal)) :
    after hostOps0 V (Proc.devRef .tc main_v12)
      = featPre (V (Proc.devRef .tc main_arg0)) (V (Proc.devRef .tc main_arg1)) (V (Proc.devRef .tc main_arg2)) (V (Proc.devRef .tc main_arg3)) := by
  after_reads_simp
  rfl

theorem s0_v0 (V : Valuation τ sig (Elt Ideal)) :
    after hostOps0 V (Proc.devRef .tc main_v0)
      = transpose S16x57x150 [0, 2, 1] (V (Proc.devRef .tc main_arg0)) transposes_S16x150x57_S16x57x150_0_2_1 := by
  after_reads_simp

theorem s0_v14 (V : Valuation τ sig (Elt Ideal)) :
    after hostOps0 V (Proc.devRef .tc main_v14)
      = cmpf .oge (featPre (V (Proc.devRef .tc main_arg0)) (V (Proc.devRef .tc main_arg1)) (V (Proc.devRef .tc main_arg2)) (V (Proc.devRef .tc main_arg3))) (broadcastInDim S16x2x57x57x150 ![] bcast_S_S16x2x57x57x150 (constant S_ .f32 0x00000000#32)) := by
  after_reads_simp
  rfl

theorem s0_v16 (V : Valuation τ sig (Elt Ideal)) :
    after hostOps0 V (Proc.devRef .tc main_v16)
      = mulf (broadcastInDim S16x2x57x57x150 ![] bcast_S_S16x2x57x57x150 (constant S_ .f32 0x3E4CCCCD#32)) (featPre (V (Proc.devRef .tc main_arg0)) (V (Proc.devRef .tc main_arg1)) (V (Proc.devRef .tc main_arg2)) (V (Proc.devRef .tc main_arg3))) := by
  after_reads_simp
  rfl

theorem s1_v17 (V : Valuation τ sig (Elt Ideal)) :
    after hostOps0_1 V (Proc.devRef .tc main_v17)
      = select (V (Proc.devRef .tc main_v14)) (V (Proc.devRef .tc main_v12)) (V (Proc.devRef .tc main_v16)) := by
  after_reads_simp
  rfl

theorem s2_v41 (V : Valuation τ sig (Elt Ideal)) :
    after hostOps0_2 V (Proc.devRef .tc main_v41)
      = featOut0 (V (Proc.devRef .tc main_v0)) (featAtt (featP (featE (V (Proc.devRef .tc main_arg4)) (V (Proc.devRef .tc main_v17))))) := by
  after_reads_simp
  rfl

theorem s2_v50 (V : Valuation τ sig (Elt Ideal)) :
    after hostOps0_2 V (Proc.devRef .tc main_v50)
      = band := by
  after_reads_simp
  rfl

theorem s2_v62 (V : Valuation τ sig (Elt Ideal)) :
    after hostOps0_2 V (Proc.devRef .tc main_v62)
      = timePre (V (Proc.devRef .tc main_arg0)) (V (Proc.devRef .tc main_arg5)) (V (Proc.devRef .tc main_arg6)) (V (Proc.devRef .tc main_arg7)) := by
  after_reads_simp
  rfl

theorem s2_v64 (V : Valuation τ sig (Elt Ideal)) :
    after hostOps0_2 V (Proc.devRef .tc main_v64)
      = cmpf .oge (timePre (V (Proc.devRef .tc main_arg0)) (V (Proc.devRef .tc main_arg5)) (V (Proc.devRef .tc main_arg6)) (V (Proc.devRef .tc main_arg7))) (broadcastInDim S16x2x150x150x57 ![] bcast_S_S16x2x150x150x57 (constant S_ .f32 0x00000000#32)) := by
  after_reads_simp
  rfl

theorem s2_v66 (V : Valuation τ sig (Elt Ideal)) :
    after hostOps0_2 V (Proc.devRef .tc main_v66)
      = mulf (broadcastInDim S16x2x150x150x57 ![] bcast_S_S16x2x150x150x57 (constant S_ .f32 0x3E4CCCCD#32)) (timePre (V (Proc.devRef .tc main_arg0)) (V (Proc.devRef .tc main_arg5)) (V (Proc.devRef .tc main_arg6)) (V (Proc.devRef .tc main_arg7))) := by
  after_reads_simp
  rfl

theorem s3_v67 (V : Valuation τ sig (Elt Ideal)) :
    after hostOps0_3 V (Proc.devRef .tc main_v67)
      = select (V (Proc.devRef .tc main_v64)) (V (Proc.devRef .tc main_v62)) (V (Proc.devRef .tc main_v66)) := by
  after_reads_simp
  rfl

theorem s5_v71 (V : Valuation τ sig (Elt Ideal)) :
    after hostOps0_5 V (Proc.devRef .tc main_v71)
      = select (broadcastInDim S16x2x150x150 ![0, 1, 2, 3] bcast_S1x1x150x150_S16x2x150x150_0_1_2_3 (V (Proc.devRef .tc main_v70))) (V (Proc.devRef .tc main_v69)) (broadcastInDim S16x2x150x150 ![] bcast_S_S16x2x150x150 (V (Proc.devRef .tc main_cst_10))) := by
  after_reads_simp
  rfl

theorem s4_v69 (V : Valuation τ sig (Elt Ideal)) :
    after hostOps0_4 V (Proc.devRef .tc main_v69)
      = transpose (α := Ideal .f32) S16x2x150x150 [1, 0, 2, 3]
      (Host.dotGeneral (φ₁ := .f32) (φ₂ := .f32) dot_S2x57_S16x2x150x150x57_S2x16x150x150_1_4_n_023_0_1 none (V (Proc.devRef .tc main_arg8)) (V (Proc.devRef .tc main_v67)))
      transposes_S2x16x150x150_S16x2x150x150_1_0_2_3 := by
  after_reads_simp

theorem s4_v70 (V : Valuation τ sig (Elt Ideal)) :
    after hostOps0_4 V (Proc.devRef .tc main_v70)
      = broadcastInDim S1x1x150x150 ![2, 3] bcast_S150x150_S1x1x150x150_2_3 (V (Proc.devRef .tc main_v50)) := by
  after_reads_simp

theorem s4_cst_10 (V : Valuation τ sig (Elt Ideal)) :
    after hostOps0_4 V (Proc.devRef .tc main_cst_10)
      = constant (F := Ideal) S_ .f32 0xFF800000#32 := by
  after_reads_simp

theorem s6_v41 (V : Valuation τ sig (Elt Ideal)) :
    upto hostOps0_6 V 28 (Proc.devRef .tc main_v41) = V (Proc.devRef .tc main_v41) := by
  after_reads_simp

theorem s6_v92 (V : Valuation τ sig (Elt Ideal)) :
    upto hostOps0_6 V 28 (Proc.devRef .tc main_v92)
      = timeOut (V (Proc.devRef .tc main_arg0)) (timeAtt (timeP (V (Proc.devRef .tc main_v71)))) := by
  after_reads_simp
  rfl

theorem s6_v101_0 (V : Valuation τ sig (Elt Ideal)) :
    after hostOps0_6 V (Proc.devRef .tc main_v101_0)
      = fuse (V (Proc.devRef .tc main_v41)) (timeOut (V (Proc.devRef .tc main_arg0)) (timeAtt (timeP (V (Proc.devRef .tc main_v71))))) (V (Proc.devRef .tc main_arg9)) (V (Proc.devRef .tc main_arg10)) := by
  after_reads_simp
  rw [s6_v41, s6_v92]
  rfl

theorem k1_v0 (V : Valuation τ sig (Elt Ideal)) :
    after hostOps0_1 V (Proc.devRef .tc main_v0)
      = V (Proc.devRef .tc main_v0) := by
  after_reads_simp

theorem k3_v41 (V : Valuation τ sig (Elt Ideal)) :
    after hostOps0_3 V (Proc.devRef .tc main_v41)
      = V (Proc.devRef .tc main_v41) := by
  after_reads_simp

theorem k4_v41 (V : Valuation τ sig (Elt Ideal)) :
    after hostOps0_4 V (Proc.devRef .tc main_v41)
      = V (Proc.devRef .tc main_v41) := by
  after_reads_simp

theorem k5_v41 (V : Valuation τ sig (Elt Ideal)) :
    after hostOps0_5 V (Proc.devRef .tc main_v41)
      = V (Proc.devRef .tc main_v41) := by
  after_reads_simp

theorem k3_v50 (V : Valuation τ sig (Elt Ideal)) :
    after hostOps0_3 V (Proc.devRef .tc main_v50)
      = V (Proc.devRef .tc main_v50) := by
  after_reads_simp

theorem entry0 (c : Dev nD) :
    entryContents preI m c (Proc.devRef .tc main_v101_0)
      = fuse (hf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)))
          (ht (m ((c.tc : Thread nD τ).loc main_arg0)) (m ((c.tc : Thread nD τ).loc main_arg5))
            (m ((c.tc : Thread nD τ).loc main_arg6)) (m ((c.tc : Thread nD τ).loc main_arg7))
            (m ((c.tc : Thread nD τ).loc main_arg8)))
          (m ((c.tc : Thread nD τ).loc main_arg9)) (m ((c.tc : Thread nD τ).loc main_arg10)) := by
  simp only [entryContents, afterL_cons, afterL_nil]
  rw [s6_v101_0, s5_v71, s4_v69, s4_v70, s4_cst_10, k5_v41, k4_v41, k3_v41, s2_v41, s3_v67, s2_v62, s2_v64, s2_v66,
    k3_v50, s2_v50, k1_v0, s0_v0, s1_v17, s0_v12, s0_v14, s0_v16,
    keep_main_arg9_hostOps0_5, keep_main_arg9_hostOps0_4, keep_main_arg9_hostOps0_3, keep_main_arg9_hostOps0_2, keep_main_arg9_hostOps0_1, keep_main_arg9_hostOps0,
    keep_main_arg10_hostOps0_5, keep_main_arg10_hostOps0_4, keep_main_arg10_hostOps0_3, keep_main_arg10_hostOps0_2, keep_main_arg10_hostOps0_1, keep_main_arg10_hostOps0,
    keep_main_arg0_hostOps0_5, keep_main_arg0_hostOps0_4, keep_main_arg0_hostOps0_3, keep_main_arg0_hostOps0_2, keep_main_arg0_hostOps0_1, keep_main_arg0_hostOps0]
  simp only [keep_main_arg0_hostOps0, keep_main_arg0_hostOps0_1, keep_main_arg0_hostOps0_2, keep_main_arg0_hostOps0_3, keep_main_arg0_hostOps0_4, keep_main_arg0_hostOps0_5, keep_main_arg4_hostOps0, keep_main_arg4_hostOps0_1, keep_main_arg5_hostOps0, keep_main_arg5_hostOps0_1, keep_main_arg6_hostOps0, keep_main_arg6_hostOps0_1, keep_main_arg7_hostOps0, keep_main_arg7_hostOps0_1, keep_main_arg8_hostOps0, keep_main_arg8_hostOps0_1, keep_main_arg8_hostOps0_2, keep_main_arg8_hostOps0_3]
  rfl

theorem entry1 (c : Dev nD) : entryContents preI m c (Proc.devRef .tc main_v101_1) = m ((c.tc : Thread nD τ).loc main_arg11) := by
  simp only [entryContents, afterL_cons, afterL_nil]
  after_reads_simp
  rfl

theorem entry2 (c : Dev nD) : entryContents preI m c (Proc.devRef .tc main_v101_2) = m ((c.tc : Thread nD τ).loc main_arg13) := by
  simp only [entryContents, afterL_cons, afterL_nil]
  after_reads_simp
  rfl

theorem entry3 (c : Dev nD) : entryContents preI m c (Proc.devRef .tc main_v101_3) = m ((c.tc : Thread nD τ).loc main_arg12) := by
  simp only [entryContents, afterL_cons, afterL_nil]
  after_reads_simp
  rfl

theorem entry4 (c : Dev nD) : entryContents preI m c (Proc.devRef .tc main_v101_4) = m ((c.tc : Thread nD τ).loc main_arg14) := by
  simp only [entryContents, afterL_cons, afterL_nil]
  after_reads_simp
  rfl

theorem entry6 (c : Dev nD) : entryContents preI m c (Proc.devRef .tc main_v101_6)
    = broadcastInDim S16x150 ![] bcast_S_S16x150 (constant (F := Ideal) S_ .f32 0x00000000#32) := by
  simp only [entryContents, afterL_cons, afterL_nil]
  after_reads_simp
  rfl

end Cert.Proof.Ref
-- ==== Proof.Band.lean ====
/- The band's word comparison. -/
module

public import proofs.«01_k».proof.Proof.Spec

@[expose] public section

namespace Cert.Proof.Spec

open Idealize.ShloMosaic

/-- The band's word comparison is the comparison of the steps. -/
theorem band_word (t s : Fin 150) :
    IntOp.cmpi .sle (IntOp.absi (IntOp.subi (BitVec.ofNat 32 t.val) (BitVec.ofNat 32 s.val))) 10#32
      = if near t s then 1#1 else 0#1 := by
  revert t s
  decide +kernel

end Cert.Proof.Spec
-- ==== Proof.RefIdx.lean ====
/- The reference's stages read at an index. -/
module

public import proofs.«01_k».proof.Proof.RefRun
public import proofs.«01_k».proof.Proof.Band
public import Idealize.ShloMosaic.Lib.Pointwise

@[expose] public section

set_option maxRecDepth 16384

noncomputable section

namespace Cert.Proof.Ref

open Cert.ReferenceIdeal Cert.ReferenceIdeal.Gen Cert.ReferenceIdeal.Value Idealize.ShloMosaic Idealize.ShloMosaic.TcCoe
open Cert.Proof.Math Cert.Proof.Spec Idealize.SL Idealize.SL.Sem Idealize.ShloMosaic.StableHlo

/-! ### Feature attention -/

theorem featPre_at (x : FVec Ideal S16x150x57 .f32) (w1 w2 : FVec Ideal S2x150x150 .f32) (bb : FVec Ideal S2x150 .f32)
    (b : Fin 16) (h : Fin 2) (i j : Fin 57) (d : Fin 150) :
    featPre x w1 w2 bb (ix5 b h i j d) = fL x w1 b h i d + fL x w2 b h j d + bb (ix2 h d) := by
  unfold fL
  pointwise [featPre]

theorem featLky_at (u : FVec Ideal S16x2x57x57x150 .f32) (b : Fin 16) (h : Fin 2) (i j : Fin 57) (d : Fin 150) :
    featLky u (ix5 b h i j d) = lky (u (ix5 b h i j d)) := by
  pointwise [featLky]
  rw [ofBits_al]
  rfl

theorem featE_at (a : FVec Ideal S2x150 .f32) (l : FVec Ideal S16x2x57x57x150 .f32) (b : Fin 16) (h : Fin 2) (i j : Fin 57) :
    featE a l (ix4 b h i j) = ∑ d : Fin 150, a (ix2 h d) * l (ix5 b h i j d) := by
  pointwise [featE]

theorem featP_at (e : FVec Ideal S16x2x57x57 .f32) (b : Fin 16) (h : Fin 2) (i j : Fin 57) :
    featP e (ix4 b h i j) = Ideal.exp (e (ix4 b h i j) - top fun k => e (ix4 b h i k)) := by
  pointwise [featP]
  rw [ofBits_bot]
  rfl

theorem featAtt_at (e : FVec Ideal S16x2x57x57 .f32) (b : Fin 16) (h : Fin 2) (i j : Fin 57) :
    featAtt e (ix4 b h i j) = Ideal.div (e (ix4 b h i j)) (∑ k, e (ix4 b h i k)) := by
  pointwise [featAtt]

theorem featOut_at (x : FVec Ideal S16x150x57 .f32) (p : FVec Ideal S16x2x57x57 .f32) (b : Fin 16) (t : Fin 150) (i : Fin 57) :
    featOut x p (ix3 b t i) = sgm (Ideal.div (∑ h : Fin 2, ∑ j : Fin 57, p (ix4 b h i j) * x (ix3 b t j)) 2) := by
  unfold sgm
  pointwise [featOut, featOut0]
  rw [ofBits_two]

/-- The reference's feature attention is the network's. -/
theorem hf_at (x : FVec Ideal S16x150x57 .f32) (w1 w2 : FVec Ideal S2x150x150 .f32) (c a : FVec Ideal S2x150 .f32)
    (b : Fin 16) (t : Fin 150) (i : Fin 57) : hf x w1 w2 c a (ix3 b t i) = fAtt x w1 w2 c a b t i := by
  unfold hf fAtt smax fScore
  rw [featOut_at]
  simp only [featAtt_at, featP_at, featE_at, featLky_at, featPre_at]

/-! ### Time attention -/

theorem timePre_at (x : FVec Ideal S16x150x57 .f32) (w1 w2 : FVec Ideal S2x57x57 .f32) (bb : FVec Ideal S2x57 .f32)
    (b : Fin 16) (h : Fin 2) (i j : Fin 150) (d : Fin 57) :
    timePre x w1 w2 bb (ix5 b h i j d) = tL x w1 b h i d + tL x w2 b h j d + bb (ix2 h d) := by
  unfold tL
  pointwise [timePre]

theorem timeLky_at (u : FVec Ideal S16x2x150x150x57 .f32) (b : Fin 16) (h : Fin 2) (i j : Fin 150) (d : Fin 57) :
    timeLky u (ix5 b h i j d) = lky (u (ix5 b h i j d)) := by
  pointwise [timeLky]
  rw [ofBits_al]
  rfl

theorem band_at (t s : Fin 150) : band (ix2 t s) = if near t s then 1#1 else 0#1 := by
  rw [← band_word]
  pointwise [band]

theorem timeE_at (a : FVec Ideal S2x57 .f32) (l : FVec Ideal S16x2x150x150x57 .f32) (b : Fin 16) (h : Fin 2) (t s : Fin 150) :
    timeE a l (ix4 b h t s) = if near t s then ∑ d : Fin 57, a (ix2 h d) * l (ix5 b h t s d) else ⊥ := by
  pointwise [timeE]
  rw [band_at, ofBits_bot]
  by_cases hn : near t s
  · rw [if_pos hn, if_pos hn]; rfl
  · rw [if_neg hn, if_neg hn]; rfl

theorem timeP_at (e : FVec Ideal S16x2x150x150 .f32) (b : Fin 16) (h : Fin 2) (i j : Fin 150) :
    timeP e (ix4 b h i j) = Ideal.exp (e (ix4 b h i j) - top fun k => e (ix4 b h i k)) := by
  pointwise [timeP]
  rw [ofBits_bot]
  rfl

theorem timeAtt_at (e : FVec Ideal S16x2x150x150 .f32) (b : Fin 16) (h : Fin 2) (i j : Fin 150) :
    timeAtt e (ix4 b h i j) = Ideal.div (e (ix4 b h i j)) (∑ k, e (ix4 b h i k)) := by
  pointwise [timeAtt]

theorem timeOut_at (x : FVec Ideal S16x150x57 .f32) (p : FVec Ideal S16x2x150x150 .f32) (b : Fin 16) (t : Fin 150) (f : Fin 57) :
    timeOut x p (ix3 b t f) = sgm (Ideal.div (∑ h : Fin 2, ∑ s : Fin 150, p (ix4 b h t s) * x (ix3 b s f)) 2) := by
  unfold sgm
  pointwise [timeOut]
  rw [ofBits_two]

/-- The reference's time attention is the network's. -/
theorem ht_at (x : FVec Ideal S16x150x57 .f32) (w1 w2 : FVec Ideal S2x57x57 .f32) (c a : FVec Ideal S2x57 .f32)
    (b : Fin 16) (t : Fin 150) (f : Fin 57) : ht x w1 w2 c a (ix3 b t f) = tAtt x w1 w2 c a b t f := by
  unfold ht tAtt smax tScore tRaw
  rw [timeOut_at]
  simp only [timeAtt_at, timeP_at, timeE_at, timeLky_at, timePre_at]

/-! ### Fusion, recurrence, head -/

theorem fuse_at (hf ht : FVec Ideal S16x150x57 .f32) (w : FVec Ideal S114x57 .f32) (bb : FVec Ideal S57 .f32) (b : Fin 16) (t : Fin 150) (f : Fin 57) :
    fuse hf ht w bb (ix3 t b f) = fused (fun b t i => hf (ix3 b t i)) (fun b t i => ht (ix3 b t i)) w bb b t f := by
  unfold fused
  pointwise [fuse]

end Cert.Proof.Ref
-- ==== Proof.RefGru.lean ====
/- The reference's recurrence: its loop is the network's recurrence over the fused steps. -/
module

public import proofs.«01_k».proof.Proof.RefRun
public import proofs.«01_k».proof.Proof.RefIdx
public import Idealize.ShloMosaic.Lib.DynamicIndex
public import Idealize.ShloMosaic.Lib.Pointwise

@[expose] public section

set_option maxRecDepth 16384

noncomputable section

namespace Cert.Proof.Ref

open Cert.ReferenceIdeal Cert.ReferenceIdeal.Gen Cert.ReferenceIdeal.Value Idealize.ShloMosaic Idealize.ShloMosaic.TcCoe
open Cert.Proof.Math Cert.Proof.Spec Idealize.SL Idealize.SL.Sem Idealize.ShloMosaic.StableHlo

theorem slice_step (k : Fin 150) : S150x16x57.Slices ![k.val, 0, 0] S1x16x57 := by
  revert k; decide +kernel

theorem toInt_step (k : Fin 150) : (BitVec.ofNat 32 k.val).toInt = (k.val : Int) := by
  revert k; decide +kernel

theorem gin_at (V0 : Valuation τ sig (Elt Ideal)) (k : Fin 150) (hc : V0 (Proc.devRef .tc main_v101_5) = fun _ => BitVec.ofNat 32 k.val)
    (b : Fin 16) (g : Fin 3) (d : Fin 150) :
    (res_main_while0b_v111 V0 : FVec Ideal S16x450 .f32) (ix2 b ⟨150 * g.val + d.val, by omega⟩)
      = gin (fun f => (V0 (Proc.devRef .tc main_v101_0) : FVec Ideal S150x16x57 .f32) (ix3 k b f)) (V0 (Proc.devRef .tc main_v101_1))
          (V0 (Proc.devRef .tc main_v101_2)) g d := by
  unfold gin
  unfold res_main_while0b_v111
  rw [hc]
  generalize hX : V0 (Proc.devRef .tc main_v101_0) = X
  generalize V0 (Proc.devRef .tc main_v101_1) = W
  generalize V0 (Proc.devRef .tc main_v101_2) = C
  rw [Host.dynamicSlice_eq_extractStridedSlice S1x16x57 X _ ![k.val, 0, 0] _ (slice_step k)
    (fun a => by fin_cases a; exacts [toInt_step k, rfl, rfl])]
  pointwise []

theorem ghid_at (V0 : Valuation τ sig (Elt Ideal)) (b : Fin 16) (g : Fin 3) (d : Fin 150) :
    (res_main_while0b_v116 V0 : FVec Ideal S16x450 .f32) (ix2 b ⟨150 * g.val + d.val, by omega⟩)
      = ghid (fun k => (V0 (Proc.devRef .tc main_v101_6) : FVec Ideal S16x150 .f32) (ix2 b k)) (V0 (Proc.devRef .tc main_v101_3))
          (V0 (Proc.devRef .tc main_v101_4)) g d := by
  unfold ghid
  unfold res_main_while0b_v116
  generalize V0 (Proc.devRef .tc main_v101_6) = P
  generalize V0 (Proc.devRef .tc main_v101_3) = W
  generalize V0 (Proc.devRef .tc main_v101_4) = C
  pointwise []

/-- One trip's new state. -/
theorem step_at (V0 : Valuation τ sig (Elt Ideal)) (k : Fin 150) (hc : V0 (Proc.devRef .tc main_v101_5) = fun _ => BitVec.ofNat 32 k.val)
    (b : Fin 16) (d : Fin 150) :
    (res_main_while0b_v144 V0 : FVec Ideal S16x150 .f32) (ix2 b d)
      = gru (V0 (Proc.devRef .tc main_v101_1)) (V0 (Proc.devRef .tc main_v101_3)) (V0 (Proc.devRef .tc main_v101_2))
          (V0 (Proc.devRef .tc main_v101_4)) (fun f => (V0 (Proc.devRef .tc main_v101_0) : FVec Ideal S150x16x57 .f32) (ix3 k b f))
          (fun k => (V0 (Proc.devRef .tc main_v101_6) : FVec Ideal S16x150 .f32) (ix2 b k)) d := by
  unfold gru
  rw [← gin_at V0 k hc b 0 d, ← gin_at V0 k hc b 1 d, ← gin_at V0 k hc b 2 d, ← ghid_at V0 b 0 d, ← ghid_at V0 b 1 d,
    ← ghid_at V0 b 2 d]
  unfold sgm res_main_while0b_v144 res_main_while0b_v136
  generalize res_main_while0b_v111 V0 = I
  generalize res_main_while0b_v116 V0 = H
  generalize V0 (Proc.devRef .tc main_v101_6) = P
  pointwise []

variable (m : (ℓ : Loc nD τ sig) → Buf (Elt Ideal) ℓ)

/-- The loop's contents before trip `n`. -/
abbrev at_ (c : Dev nD) (n : Nat) : Valuation τ sig (Elt Ideal) := STEP^[n] (entryContents preI m c)

theorem at_ctr (c : Dev nD) (n : Nat) : at_ m c n (Proc.devRef .tc main_v101_5) = fun _ => BitVec.ofNat 32 n := by
  induction n with
  | zero => exact ctr_entry m c
  | succ n ih =>
    unfold at_ at ih ⊢
    rw [Function.iterate_succ_apply', STEP_main_v101_5]
    unfold step_main_v101_5
    rw [ih]
    funext i
    exact (BitVec.ofNat_add n 1).symm

theorem at_kept0 (c : Dev nD) (n : Nat) : at_ m c n (Proc.devRef .tc main_v101_0) = entryContents preI m c (Proc.devRef .tc main_v101_0) := by
  induction n with
  | zero => rfl
  | succ n ih => unfold at_ at ih ⊢; rw [Function.iterate_succ_apply', STEP_main_v101_0, ih]

theorem at_kept1 (c : Dev nD) (n : Nat) : at_ m c n (Proc.devRef .tc main_v101_1) = entryContents preI m c (Proc.devRef .tc main_v101_1) := by
  induction n with
  | zero => rfl
  | succ n ih => unfold at_ at ih ⊢; rw [Function.iterate_succ_apply', STEP_main_v101_1, ih]

theorem at_kept2 (c : Dev nD) (n : Nat) : at_ m c n (Proc.devRef .tc main_v101_2) = entryContents preI m c (Proc.devRef .tc main_v101_2) := by
  induction n with
  | zero => rfl
  | succ n ih => unfold at_ at ih ⊢; rw [Function.iterate_succ_apply', STEP_main_v101_2, ih]

theorem at_kept3 (c : Dev nD) (n : Nat) : at_ m c n (Proc.devRef .tc main_v101_3) = entryContents preI m c (Proc.devRef .tc main_v101_3) := by
  induction n with
  | zero => rfl
  | succ n ih => unfold at_ at ih ⊢; rw [Function.iterate_succ_apply', STEP_main_v101_3, ih]

theorem at_kept4 (c : Dev nD) (n : Nat) : at_ m c n (Proc.devRef .tc main_v101_4) = entryContents preI m c (Proc.devRef .tc main_v101_4) := by
  induction n with
  | zero => rfl
  | succ n ih => unfold at_ at ih ⊢; rw [Function.iterate_succ_apply', STEP_main_v101_4, ih]

/-- The fused steps of the arguments. -/
def steps (c : Dev nD) : Fin 16 → Fin 150 → Fin 57 → EReal :=
  fused
    (fAtt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)))
    (tAtt (m ((c.tc : Thread nD τ).loc main_arg0)) (m ((c.tc : Thread nD τ).loc main_arg5)) (m ((c.tc : Thread nD τ).loc main_arg6))
      (m ((c.tc : Thread nD τ).loc main_arg7)) (m ((c.tc : Thread nD τ).loc main_arg8)))
    (m ((c.tc : Thread nD τ).loc main_arg9)) (m ((c.tc : Thread nD τ).loc main_arg10))

theorem entry0_at (c : Dev nD) (t : Fin 150) (b : Fin 16) (f : Fin 57) :
    (entryContents preI m c (Proc.devRef .tc main_v101_0) : FVec Ideal S150x16x57 .f32) (ix3 t b f) = steps m c b t f := by
  rw [entry0, fuse_at]
  unfold steps
  simp only [hf_at, ht_at]

/-- Before trip `n` the carried state is the recurrence's. -/
theorem at_hid (c : Dev nD) (n : Nat) (hn : n ≤ 150) (b : Fin 16) (d : Fin 150) :
    (at_ m c n (Proc.devRef .tc main_v101_6) : FVec Ideal S16x150 .f32) (ix2 b d)
      = hid (m ((c.tc : Thread nD τ).loc main_arg11)) (m ((c.tc : Thread nD τ).loc main_arg12)) (m ((c.tc : Thread nD τ).loc main_arg13))
          (m ((c.tc : Thread nD τ).loc main_arg14)) (steps m c) b n d := by
  induction n generalizing b d with
  | zero =>
    have e : at_ m c 0 (Proc.devRef .tc main_v101_6)
        = broadcastInDim S16x150 ![] bcast_S_S16x150 (constant (F := Ideal) S_ .f32 0x00000000#32) := entry6 m c
    rw [e]
    unfold hid
    pointwise []
  | succ n ih =>
    have e : at_ m c (n + 1) (Proc.devRef .tc main_v101_6) = res_main_while0b_v144 (at_ m c n) := by
      unfold at_; rw [Function.iterate_succ_apply', STEP_main_v101_6]; rfl
    rw [e, step_at (at_ m c n) ⟨n, by omega⟩ (at_ctr m c n) b d, hid_succ _ _ _ _ _ _ n (by omega), at_kept0, at_kept1, at_kept2,
      at_kept3, at_kept4, entry1, entry2, entry3, entry4]
    simp only [ih (by omega)]
    exact congrArg (fun u => gru _ _ _ _ u _ d) (funext fun f => entry0_at m c ⟨n, by omega⟩ b f)

/-- The reference's result at an index. -/
theorem out_at (c : Dev nD) (b : Fin 16) (o : Fin 3) :
    (out_main_v105 (STEP^[150] (entryContents preI m c)) : FVec Ideal S16x3 .f32) (ix2 b o)
      = head (fun b => hid (m ((c.tc : Thread nD τ).loc main_arg11)) (m ((c.tc : Thread nD τ).loc main_arg12))
            (m ((c.tc : Thread nD τ).loc main_arg13)) (m ((c.tc : Thread nD τ).loc main_arg14)) (steps m c) b 150)
          (m ((c.tc : Thread nD τ).loc main_arg15)) (m ((c.tc : Thread nD τ).loc main_arg16)) b o := by
  unfold out_main_v105 head
  rw [iter_main_arg15, iter_main_arg16]
  simp only [← at_hid m c 150 le_rfl]
  unfold at_
  generalize (STEP^[150] (entryContents preI m c)) (Proc.devRef .tc main_v101_6) = P
  pointwise []

end Cert.Proof.Ref
-- ==== Proof.Values.lean ====
/- The values: the kernel's result is the reference's. -/
module

public import proofs.«01_k».proof.Proof.Loop
public import proofs.«01_k».proof.Proof.Pre
public import proofs.«01_k».proof.Proof.RefGru

@[expose] public section

set_option maxRecDepth 16384

noncomputable section

namespace Cert.Proof.Ker

open Cert.KernelIdeal Cert.KernelIdeal.Gen Cert.KernelIdeal.Value Idealize.ShloMosaic Idealize.ShloMosaic.TcCoe
open Cert.Proof.Math Cert.Proof.Spec Idealize.SL Idealize.SL.Sem

variable (m : (ℓ : Loc nD τ sig) → Buf (Elt Ideal) ℓ)

/-- The kernel's fused steps. -/
def steps (c : Dev nD) : Fin 16 → Fin 150 → Fin 57 → EReal :=
  fused (fAtt (m ((c : Thread nD τ).loc main_arg0)) (m ((c : Thread nD τ).loc main_arg1)) (m ((c : Thread nD τ).loc main_arg2))
      (m ((c : Thread nD τ).loc main_arg3)) (m ((c : Thread nD τ).loc main_arg4)))
    (tAtt (m ((c : Thread nD τ).loc main_arg0)) (m ((c : Thread nD τ).loc main_arg5)) (m ((c : Thread nD τ).loc main_arg6))
      (m ((c : Thread nD τ).loc main_arg7)) (m ((c : Thread nD τ).loc main_arg8)))
    (m ((c : Thread nD τ).loc main_arg9)) (m ((c : Thread nD τ).loc main_arg10))

/-- The kernel's result at an index, where the nine arrays the scores are made of hold reals. -/
theorem result_at (hp : Cert.Pre_KernelIdeal_scores_finite m) (c : Dev nD) (b : Fin 16) (o : Fin 3) :
    result m c (ix2 b o) = head (fun b => hid (m ((c : Thread nD τ).loc main_arg11)) (m ((c : Thread nD τ).loc main_arg12))
          (m ((c : Thread nD τ).loc main_arg13)) (m ((c : Thread nD τ).loc main_arg14)) (steps m c) b 150)
        (m ((c : Thread nD τ).loc main_arg15)) (m ((c : Thread nD τ).loc main_arg16)) b o := by
  obtain ⟨p0, p1, p2, p3, p4, p5, p6, p7, p8⟩ := Cert.Proof.Pre.finite (hp c)
  unfold result
  rw [V_main_v1, V_main_v3, V_main_v10, V_main_v17, V_main_v22, V_main_v27, V_main_v39, V_main_v44, V_main_v49, V_main_v55, V_main_v65, V_main_v78, V_main_v85, V_main_v99, V_main_v101, V_main_v102, V_main_v103, V_main_v104,
    V_main_v105, V_main_arg0, V_main_arg15]
  exact head_at _ (m ((c : Thread nD τ).loc main_arg12)) _ _ _
    (gates_at (m ((c : Thread nD τ).loc main_arg11)) (m ((c : Thread nD τ).loc main_arg13)) (m ((c : Thread nD τ).loc main_arg14)) p0 p1 p2 p3 p4 p5 p6 p7 p8
      (m ((c : Thread nD τ).loc main_arg9)) (m ((c : Thread nD τ).loc main_arg10))) _ _ b o

end Cert.Proof.Ker

namespace Cert.Proof

open Idealize.ShloMosaic Idealize.SL.Sem Cert.Proof.Spec

/-- From one initial memory with finite scores' arrays, the kernel's result is the reference's, over the reals. -/
theorem values : Cert.algebraic_KernelIdeal_ReferenceIdeal_pre_scores_finite := by
  intro m g m' g' hp hag
  refine ⟨fun c => Cert.Proof.Ker.result m c, ?_, ?_⟩
  · exact (θ_run Cert.KernelIdeal.defs _ _).mono (fun r h c => ⟨(h c).1.trans (Cert.Proof.Ker.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7, e8, e9, e10, e11, e12, e13, e14, e15, e16⟩ := hag c
    refine funext fun (j : Cert.KernelIdeal.S16x3.Idx) => ?_
    obtain ⟨b, o, rfl⟩ : ∃ b o, j = ix2 b o := ⟨j 0, j 1, eq_ix2 j⟩
    refine (Cert.Proof.Ref.out_at m' c b o).trans (Eq.trans ?_ (Cert.Proof.Ker.result_at m hp c b o).symm)
    unfold Cert.Proof.Ref.steps Cert.Proof.Ker.steps
    rw [e0, e1, e2, e3, e4, e5, e6, e7, e8, e9, e10, e11, e12, e13, e14, e15, e16]

end Cert.Proof
-- ==== Proof.lean ====
/- The proof of the certificate's claim: the frames, the named constants and the values. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import proofs.«01_k».proof.Proof.Values
public import proofs.«01_k».proof.Proof.Gen.KernelIdeal.Value
public import proofs.«01_k».proof.Proof.Gen.Pre_scores_finite

@[expose] public section

noncomputable section

namespace Cert.Proof

theorem claim : Cert.Claim :=
  ⟨Cert.Kernel.Gen.facts, Cert.KernelIdeal.Gen.facts, Cert.ReferenceIdeal.Gen.facts,
    Cert.Pre_scores_finite.Gen.facts, frame_kernel, frame_kernelIdeal, frame_kernelIdeal_pre, frame_referenceIdeal,
    frame_referenceIdeal_pre, constants, values⟩

end Cert.Proof

end
